-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 8192]⟩ ⟨2, ![4096, 8192]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S4096x8192 : Shape := ⟨2, ![4096, 8192]⟩
abbrev S1024x8192 : Shape := ⟨2, ![1024, 8192]⟩
abbrev S3x1024x1024 : Shape := ⟨3, ![3, 1024, 1024]⟩
abbrev S1024x1024 : Shape := ⟨2, ![1024, 1024]⟩
abbrev S4x1024x1024 : Shape := ⟨3, ![4, 1024, 1024]⟩
abbrev S3 : Shape := ⟨1, ![3]⟩
abbrev S4 : Shape := ⟨1, ![4]⟩
abbrev S_ : Shape := ⟨0, ![]⟩
abbrev S1 : Shape := ⟨1, ![1]⟩
abbrev S1x1024x1024 : Shape := ⟨3, ![1, 1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x8192, .bf16⟩
  | .hbm, ⟨2, _⟩ => ⟨S1024x8192, .f32⟩
  | .local _ .vmem, ⟨0, _⟩ => ⟨S1024x8192, .f32⟩
  | .local _ .vmem, ⟨1, _⟩ => ⟨S3x1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S4x1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v3 : BitVec 32 := Scalar.muli v2 c1024_i32
  let c0_i32 : BitVec 32 := 0#32
  ![v3.toNat, 0]
def k0_dev1 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v6 : BitVec 32 := Scalar.addi v2 c1_i32_0
  let c4_i32_1 : BitVec 32 := 4#32
  let c0_i32_2 : BitVec 32 := 0#32
  let v7 : BitVec 1 := Scalar.cmpi .eq c4_i32_1 c0_i32_2
  let c1_i32_3 : BitVec 32 := 1#32
  let v8 : BitVec 32 := Scalar.select v7 c1_i32_3 c4_i32_1
  let v9 : BitVec 32 := Scalar.remsi v6 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_8 : BitVec 32 := 1#32
  let v17 : BitVec 32 := Scalar.muli v16 c1_i32_8
  let v18 : BitVec 32 := Scalar.addi c0_i32_9 v17
  v18.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v19 : BitVec 32 := Scalar.addi v2 c2_i32
  let c4_i32_10 : BitVec 32 := 4#32
  let c0_i32_11 : BitVec 32 := 0#32
  let v20 : BitVec 1 := Scalar.cmpi .eq c4_i32_10 c0_i32_11
  let c1_i32_12 : BitVec 32 := 1#32
  let v21 : BitVec 32 := Scalar.select v20 c1_i32_12 c4_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_17 : BitVec 32 := 1#32
  let v30 : BitVec 32 := Scalar.muli v29 c1_i32_17
  let v31 : BitVec 32 := Scalar.addi c0_i32_18 v30
  v31.toNat
def k0_dev3 (d0 : Dev nD) : Nat :=
  let c0_i32_27 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v32 : BitVec 32 := Scalar.addi v2 c3_i32
  let c4_i32_19 : BitVec 32 := 4#32
  let c0_i32_20 : BitVec 32 := 0#32
  let v33 : BitVec 1 := Scalar.cmpi .eq c4_i32_19 c0_i32_20
  let c1_i32_21 : BitVec 32 := 1#32
  let v34 : BitVec 32 := Scalar.select v33 c1_i32_21 c4_i32_19
  let v35 : BitVec 32 := Scalar.remsi v32 v34
  let c0_i32_23 : BitVec 32 := 0#32
  let v37 : BitVec 1 := Scalar.cmpi .slt v35 c0_i32_23
  let c0_i32_24 : BitVec 32 := 0#32
  let v38 : BitVec 1 := Scalar.cmpi .slt v34 c0_i32_24
  let v39 : BitVec 1 := Scalar.xori v37 v38
  let c0_i32_22 : BitVec 32 := 0#32
  let v36 : BitVec 1 := Scalar.cmpi .ne v35 c0_i32_22
  let v40 : BitVec 1 := Scalar.andi v39 v36
  let v41 : BitVec 32 := Scalar.addi v35 v34
  let v42 : BitVec 32 := Scalar.select v40 v41 v35
  let c1_i32_26 : BitVec 32 := 1#32
  let v43 : BitVec 32 := Scalar.muli v42 c1_i32_26
  let v44 : BitVec 32 := Scalar.addi c0_i32_27 v43
  v44.toNat
def k0_off2 (d0 : Dev nD) (c1_i32_29 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v45 : BitVec 32 := Scalar.addi v2 c1_i32_29
  let c4_i32_30 : BitVec 32 := 4#32
  let c0_i32_31 : BitVec 32 := 0#32
  let v46 : BitVec 1 := Scalar.cmpi .eq c4_i32_30 c0_i32_31
  let c1_i32_32 : BitVec 32 := 1#32
  let v47 : BitVec 32 := Scalar.select v46 c1_i32_32 c4_i32_30
  let v48 : BitVec 32 := Scalar.remsi v45 v47
  let c0_i32_34 : BitVec 32 := 0#32
  let v50 : BitVec 1 := Scalar.cmpi .slt v48 c0_i32_34
  let c0_i32_35 : BitVec 32 := 0#32
  let v51 : BitVec 1 := Scalar.cmpi .slt v47 c0_i32_35
  let v52 : BitVec 1 := Scalar.xori v50 v51
  let c0_i32_33 : BitVec 32 := 0#32
  let v49 : BitVec 1 := Scalar.cmpi .ne v48 c0_i32_33
  let v53 : BitVec 1 := Scalar.andi v52 v49
  let v54 : BitVec 32 := Scalar.addi v48 v47
  let v55 : BitVec 32 := Scalar.select v53 v54 v48
  let c1024_i32_36 : BitVec 32 := 1024#32
  let v56 : BitVec 32 := Scalar.muli v55 c1024_i32_36
  let c0_i32_44 : BitVec 32 := 0#32
  ![v56.toNat, 0]
def k0_dev4 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_29 : BitVec 32 := 1#32
  let v45 : BitVec 32 := Scalar.addi v2 c1_i32_29
  let c4_i32_30 : BitVec 32 := 4#32
  let c0_i32_31 : BitVec 32 := 0#32
  let v46 : BitVec 1 := Scalar.cmpi .eq c4_i32_30 c0_i32_31
  let c1_i32_32 : BitVec 32 := 1#32
  let v47 : BitVec 32 := Scalar.select v46 c1_i32_32 c4_i32_30
  let v48 : BitVec 32 := Scalar.remsi v45 v47
  let c0_i32_34 : BitVec 32 := 0#32
  let v50 : BitVec 1 := Scalar.cmpi .slt v48 c0_i32_34
  let c0_i32_35 : BitVec 32 := 0#32
  let v51 : BitVec 1 := Scalar.cmpi .slt v47 c0_i32_35
  let v52 : BitVec 1 := Scalar.xori v50 v51
  let c0_i32_33 : BitVec 32 := 0#32
  let v49 : BitVec 1 := Scalar.cmpi .ne v48 c0_i32_33
  let v53 : BitVec 1 := Scalar.andi v52 v49
  let v54 : BitVec 32 := Scalar.addi v48 v47
  let v55 : BitVec 32 := Scalar.select v53 v54 v48
  let c1_i32_40 : BitVec 32 := 1#32
  let v57 : BitVec 32 := Scalar.muli v55 c1_i32_40
  let v58 : BitVec 32 := Scalar.addi c0_i32_41 v57
  v58.toNat
def k0_dev5 (d0 : Dev nD) : Nat :=
  let c0_i32_57 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_45 : BitVec 32 := 2#32
  let v66 : BitVec 32 := Scalar.addi v2 c2_i32_45
  let c4_i32_46 : BitVec 32 := 4#32
  let c0_i32_47 : BitVec 32 := 0#32
  let v67 : BitVec 1 := Scalar.cmpi .eq c4_i32_46 c0_i32_47
  let c1_i32_48 : BitVec 32 := 1#32
  let v68 : BitVec 32 := Scalar.select v67 c1_i32_48 c4_i32_46
  let v69 : BitVec 32 := Scalar.remsi v66 v68
  let c0_i32_50 : BitVec 32 := 0#32
  let v71 : BitVec 1 := Scalar.cmpi .slt v69 c0_i32_50
  let c0_i32_51 : BitVec 32 := 0#32
  let v72 : BitVec 1 := Scalar.cmpi .slt v68 c0_i32_51
  let v73 : BitVec 1 := Scalar.xori v71 v72
  let c0_i32_49 : BitVec 32 := 0#32
  let v70 : BitVec 1 := Scalar.cmpi .ne v69 c0_i32_49
  let v74 : BitVec 1 := Scalar.andi v73 v70
  let v75 : BitVec 32 := Scalar.addi v69 v68
  let v76 : BitVec 32 := Scalar.select v74 v75 v69
  let c1_i32_56 : BitVec 32 := 1#32
  let v78 : BitVec 32 := Scalar.muli v76 c1_i32_56
  let v79 : BitVec 32 := Scalar.addi c0_i32_57 v78
  v79.toNat
def k0_dev6 (d0 : Dev nD) : Nat :=
  let c0_i32_73 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_61 : BitVec 32 := 3#32
  let v87 : BitVec 32 := Scalar.addi v2 c3_i32_61
  let c4_i32_62 : BitVec 32 := 4#32
  let c0_i32_63 : BitVec 32 := 0#32
  let v88 : BitVec 1 := Scalar.cmpi .eq c4_i32_62 c0_i32_63
  let c1_i32_64 : BitVec 32 := 1#32
  let v89 : BitVec 32 := Scalar.select v88 c1_i32_64 c4_i32_62
  let v90 : BitVec 32 := Scalar.remsi v87 v89
  let c0_i32_66 : BitVec 32 := 0#32
  let v92 : BitVec 1 := Scalar.cmpi .slt v90 c0_i32_66
  let c0_i32_67 : BitVec 32 := 0#32
  let v93 : BitVec 1 := Scalar.cmpi .slt v89 c0_i32_67
  let v94 : BitVec 1 := Scalar.xori v92 v93
  let c0_i32_65 : BitVec 32 := 0#32
  let v91 : BitVec 1 := Scalar.cmpi .ne v90 c0_i32_65
  let v95 : BitVec 1 := Scalar.andi v94 v91
  let v96 : BitVec 32 := Scalar.addi v90 v89
  let v97 : BitVec 32 := Scalar.select v95 v96 v90
  let c1_i32_72 : BitVec 32 := 1#32
  let v99 : BitVec 32 := Scalar.muli v97 c1_i32_72
  let v100 : BitVec 32 := Scalar.addi c0_i32_73 v99
  v100.toNat
def k0_off3 (d0 : Dev nD) (c0_i32_77 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v108 : BitVec 32 := Scalar.addi v2 c0_i32_77
  let c4_i32_78 : BitVec 32 := 4#32
  let c0_i32_79 : BitVec 32 := 0#32
  let v109 : BitVec 1 := Scalar.cmpi .eq c4_i32_78 c0_i32_79
  let c1_i32_80 : BitVec 32 := 1#32
  let v110 : BitVec 32 := Scalar.select v109 c1_i32_80 c4_i32_78
  let v111 : BitVec 32 := Scalar.remsi v108 v110
  let c0_i32_82 : BitVec 32 := 0#32
  let v113 : BitVec 1 := Scalar.cmpi .slt v111 c0_i32_82
  let c0_i32_83 : BitVec 32 := 0#32
  let v114 : BitVec 1 := Scalar.cmpi .slt v110 c0_i32_83
  let v115 : BitVec 1 := Scalar.xori v113 v114
  let c0_i32_81 : BitVec 32 := 0#32
  let v112 : BitVec 1 := Scalar.cmpi .ne v111 c0_i32_81
  let v116 : BitVec 1 := Scalar.andi v115 v112
  let v117 : BitVec 32 := Scalar.addi v111 v110
  let v118 : BitVec 32 := Scalar.select v116 v117 v111
  let c1024_i32_84 : BitVec 32 := 1024#32
  let v119 : BitVec 32 := Scalar.muli v118 c1024_i32_84
  let c0_i32_89 : BitVec 32 := 0#32
  ![v119.toNat, 0]
def k0_off4 (d0 : Dev nD) (c0_i32_90 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v125 : BitVec 32 := Scalar.addi v2 c0_i32_90
  let c4_i32_91 : BitVec 32 := 4#32
  let c0_i32_92 : BitVec 32 := 0#32
  let v126 : BitVec 1 := Scalar.cmpi .eq c4_i32_91 c0_i32_92
  let c1_i32_93 : BitVec 32 := 1#32
  let v127 : BitVec 32 := Scalar.select v126 c1_i32_93 c4_i32_91
  let v128 : BitVec 32 := Scalar.remsi v125 v127
  let c0_i32_95 : BitVec 32 := 0#32
  let v130 : BitVec 1 := Scalar.cmpi .slt v128 c0_i32_95
  let c0_i32_96 : BitVec 32 := 0#32
  let v131 : BitVec 1 := Scalar.cmpi .slt v127 c0_i32_96
  let v132 : BitVec 1 := Scalar.xori v130 v131
  let c0_i32_94 : BitVec 32 := 0#32
  let v129 : BitVec 1 := Scalar.cmpi .ne v128 c0_i32_94
  let v133 : BitVec 1 := Scalar.andi v132 v129
  let v134 : BitVec 32 := Scalar.addi v128 v127
  let v135 : BitVec 32 := Scalar.select v133 v134 v128
  let c1024_i32_97 : BitVec 32 := 1024#32
  let v136 : BitVec 32 := Scalar.muli v135 c1024_i32_97
  let c1024_i32_102 : BitVec 32 := 1024#32
  ![v136.toNat, 1024]
def k0_off5 (d0 : Dev nD) (c0_i32_103 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v142 : BitVec 32 := Scalar.addi v2 c0_i32_103
  let c4_i32_104 : BitVec 32 := 4#32
  let c0_i32_105 : BitVec 32 := 0#32
  let v143 : BitVec 1 := Scalar.cmpi .eq c4_i32_104 c0_i32_105
  let c1_i32_106 : BitVec 32 := 1#32
  let v144 : BitVec 32 := Scalar.select v143 c1_i32_106 c4_i32_104
  let v145 : BitVec 32 := Scalar.remsi v142 v144
  let c0_i32_108 : BitVec 32 := 0#32
  let v147 : BitVec 1 := Scalar.cmpi .slt v145 c0_i32_108
  let c0_i32_109 : BitVec 32 := 0#32
  let v148 : BitVec 1 := Scalar.cmpi .slt v144 c0_i32_109
  let v149 : BitVec 1 := Scalar.xori v147 v148
  let c0_i32_107 : BitVec 32 := 0#32
  let v146 : BitVec 1 := Scalar.cmpi .ne v145 c0_i32_107
  let v150 : BitVec 1 := Scalar.andi v149 v146
  let v151 : BitVec 32 := Scalar.addi v145 v144
  let v152 : BitVec 32 := Scalar.select v150 v151 v145
  let c1024_i32_110 : BitVec 32 := 1024#32
  let v153 : BitVec 32 := Scalar.muli v152 c1024_i32_110
  let c2048_i32 : BitVec 32 := 2048#32
  ![v153.toNat, 2048]
def k0_off6 (d0 : Dev nD) (c0_i32_115 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v159 : BitVec 32 := Scalar.addi v2 c0_i32_115
  let c4_i32_116 : BitVec 32 := 4#32
  let c0_i32_117 : BitVec 32 := 0#32
  let v160 : BitVec 1 := Scalar.cmpi .eq c4_i32_116 c0_i32_117
  let c1_i32_118 : BitVec 32 := 1#32
  let v161 : BitVec 32 := Scalar.select v160 c1_i32_118 c4_i32_116
  let v162 : BitVec 32 := Scalar.remsi v159 v161
  let c0_i32_120 : BitVec 32 := 0#32
  let v164 : BitVec 1 := Scalar.cmpi .slt v162 c0_i32_120
  let c0_i32_121 : BitVec 32 := 0#32
  let v165 : BitVec 1 := Scalar.cmpi .slt v161 c0_i32_121
  let v166 : BitVec 1 := Scalar.xori v164 v165
  let c0_i32_119 : BitVec 32 := 0#32
  let v163 : BitVec 1 := Scalar.cmpi .ne v162 c0_i32_119
  let v167 : BitVec 1 := Scalar.andi v166 v163
  let v168 : BitVec 32 := Scalar.addi v162 v161
  let v169 : BitVec 32 := Scalar.select v167 v168 v162
  let c1024_i32_122 : BitVec 32 := 1024#32
  let v170 : BitVec 32 := Scalar.muli v169 c1024_i32_122
  let c3072_i32 : BitVec 32 := 3072#32
  ![v170.toNat, 3072]
def k0_off7 (d0 : Dev nD) (c0_i32_151 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v204 : BitVec 32 := Scalar.addi v2 c0_i32_151
  let c4_i32_152 : BitVec 32 := 4#32
  let c0_i32_153 : BitVec 32 := 0#32
  let v205 : BitVec 1 := Scalar.cmpi .eq c4_i32_152 c0_i32_153
  let c1_i32_154 : BitVec 32 := 1#32
  let v206 : BitVec 32 := Scalar.select v205 c1_i32_154 c4_i32_152
  let v207 : BitVec 32 := Scalar.remsi v204 v206
  let c0_i32_156 : BitVec 32 := 0#32
  let v209 : BitVec 1 := Scalar.cmpi .slt v207 c0_i32_156
  let c0_i32_157 : BitVec 32 := 0#32
  let v210 : BitVec 1 := Scalar.cmpi .slt v206 c0_i32_157
  let v211 : BitVec 1 := Scalar.xori v209 v210
  let c0_i32_155 : BitVec 32 := 0#32
  let v208 : BitVec 1 := Scalar.cmpi .ne v207 c0_i32_155
  let v212 : BitVec 1 := Scalar.andi v211 v208
  let v213 : BitVec 32 := Scalar.addi v207 v206
  let v214 : BitVec 32 := Scalar.select v212 v213 v207
  let c1024_i32_158 : BitVec 32 := 1024#32
  let v215 : BitVec 32 := Scalar.muli v214 c1024_i32_158
  let c4096_i32 : BitVec 32 := 4096#32
  ![v215.toNat, 4096]
def k0_off8 (d0 : Dev nD) (c0_i32_182 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v243 : BitVec 32 := Scalar.addi v2 c0_i32_182
  let c4_i32_183 : BitVec 32 := 4#32
  let c0_i32_184 : BitVec 32 := 0#32
  let v244 : BitVec 1 := Scalar.cmpi .eq c4_i32_183 c0_i32_184
  let c1_i32_185 : BitVec 32 := 1#32
  let v245 : BitVec 32 := Scalar.select v244 c1_i32_185 c4_i32_183
  let v246 : BitVec 32 := Scalar.remsi v243 v245
  let c0_i32_187 : BitVec 32 := 0#32
  let v248 : BitVec 1 := Scalar.cmpi .slt v246 c0_i32_187
  let c0_i32_188 : BitVec 32 := 0#32
  let v249 : BitVec 1 := Scalar.cmpi .slt v245 c0_i32_188
  let v250 : BitVec 1 := Scalar.xori v248 v249
  let c0_i32_186 : BitVec 32 := 0#32
  let v247 : BitVec 1 := Scalar.cmpi .ne v246 c0_i32_186
  let v251 : BitVec 1 := Scalar.andi v250 v247
  let v252 : BitVec 32 := Scalar.addi v246 v245
  let v253 : BitVec 32 := Scalar.select v251 v252 v246
  let c1024_i32_189 : BitVec 32 := 1024#32
  let v254 : BitVec 32 := Scalar.muli v253 c1024_i32_189
  let c5120_i32 : BitVec 32 := 5120#32
  ![v254.toNat, 5120]
def k0_off9 (d0 : Dev nD) (c0_i32_213 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v282 : BitVec 32 := Scalar.addi v2 c0_i32_213
  let c4_i32_214 : BitVec 32 := 4#32
  let c0_i32_215 : BitVec 32 := 0#32
  let v283 : BitVec 1 := Scalar.cmpi .eq c4_i32_214 c0_i32_215
  let c1_i32_216 : BitVec 32 := 1#32
  let v284 : BitVec 32 := Scalar.select v283 c1_i32_216 c4_i32_214
  let v285 : BitVec 32 := Scalar.remsi v282 v284
  let c0_i32_218 : BitVec 32 := 0#32
  let v287 : BitVec 1 := Scalar.cmpi .slt v285 c0_i32_218
  let c0_i32_219 : BitVec 32 := 0#32
  let v288 : BitVec 1 := Scalar.cmpi .slt v284 c0_i32_219
  let v289 : BitVec 1 := Scalar.xori v287 v288
  let c0_i32_217 : BitVec 32 := 0#32
  let v286 : BitVec 1 := Scalar.cmpi .ne v285 c0_i32_217
  let v290 : BitVec 1 := Scalar.andi v289 v286
  let v291 : BitVec 32 := Scalar.addi v285 v284
  let v292 : BitVec 32 := Scalar.select v290 v291 v285
  let c1024_i32_220 : BitVec 32 := 1024#32
  let v293 : BitVec 32 := Scalar.muli v292 c1024_i32_220
  let c6144_i32 : BitVec 32 := 6144#32
  ![v293.toNat, 6144]
def k0_off10 (d0 : Dev nD) (c0_i32_244 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v321 : BitVec 32 := Scalar.addi v2 c0_i32_244
  let c4_i32_245 : BitVec 32 := 4#32
  let c0_i32_246 : BitVec 32 := 0#32
  let v322 : BitVec 1 := Scalar.cmpi .eq c4_i32_245 c0_i32_246
  let c1_i32_247 : BitVec 32 := 1#32
  let v323 : BitVec 32 := Scalar.select v322 c1_i32_247 c4_i32_245
  let v324 : BitVec 32 := Scalar.remsi v321 v323
  let c0_i32_249 : BitVec 32 := 0#32
  let v326 : BitVec 1 := Scalar.cmpi .slt v324 c0_i32_249
  let c0_i32_250 : BitVec 32 := 0#32
  let v327 : BitVec 1 := Scalar.cmpi .slt v323 c0_i32_250
  let v328 : BitVec 1 := Scalar.xori v326 v327
  let c0_i32_248 : BitVec 32 := 0#32
  let v325 : BitVec 1 := Scalar.cmpi .ne v324 c0_i32_248
  let v329 : BitVec 1 := Scalar.andi v328 v325
  let v330 : BitVec 32 := Scalar.addi v324 v323
  let v331 : BitVec 32 := Scalar.select v329 v330 v324
  let c1024_i32_251 : BitVec 32 := 1024#32
  let v332 : BitVec 32 := Scalar.muli v331 c1024_i32_251
  let c7168_i32 : BitVec 32 := 7168#32
  ![v332.toNat, 7168]
abbrev stage0_0 : Fin 1 → Memref sig .tc .vmem S1024x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .f32⟩
  | .hbm, ⟨3, _⟩ => ⟨S4096x8192, .bf16⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x8192, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.KernelIdeal.Common.lean ====
/-
# The protocol of the kernel

Four devices on a ring. Each device signals the barrier cell of the three others, waits for their three signals, sends
three row blocks of its own columns of `x` (one to each other device), and reads the three blocks it is sent. The device
that is `k + 1` places after `c` is `peer k c` (`k = 0, 1, 2`).

Under the rounds library every cell has one round. A barrier cell has three duties of one unit: duty `k` of `c`'s barrier
cell is paid by the device whose `k`-th signal goes to `c`, and hands `c` that device's receive slot `k`. A receive cell has
one duty, which hands over the slot with the block in it; a send cell has one duty, which hands back the rows lent.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, the ring's (duties `Fin 3`), and the local transfers' counters -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

/-- The device `k + 1` places after `c`. -/
def peer (k : Fin 3) (c : Dev nD) : Dev nD := ⟨(c.val + k.val + 1) % 4, Nat.mod_lt _ (by decide)⟩
/-- `opp k` places on from `peer k c` is `c` again. -/
def opp (k : Fin 3) : Fin 3 := ⟨2 - k.val, by omega⟩

theorem opp_opp (k : Fin 3) : opp (opp k) = k := by revert k; decide
theorem peer_opp (k : Fin 3) (c : Dev nD) : peer (opp k) (peer k c) = c := by revert k c; decide
theorem opp_peer (k : Fin 3) (c : Dev nD) : peer k (peer (opp k) c) = c := by revert k c; decide
theorem opp0 : opp 0 = 2 := by decide
theorem opp1 : opp 1 = 1 := by decide
theorem opp2 : opp 2 = 0 := by decide

theorem dev1_eq (c : Dev nD) : (⟨k0_dev1 c, k0_dev1_lt c⟩ : Dev nD) = peer 0 c := by revert c; decide +kernel
theorem dev2_eq (c : Dev nD) : (⟨k0_dev2 c, k0_dev2_lt c⟩ : Dev nD) = peer 1 c := by revert c; decide +kernel
theorem dev3_eq (c : Dev nD) : (⟨k0_dev3 c, k0_dev3_lt c⟩ : Dev nD) = peer 2 c := by revert c; decide +kernel
theorem dev4_eq (c : Dev nD) : (⟨k0_dev4 c, k0_dev4_lt c⟩ : Dev nD) = peer 0 c := by revert c; decide +kernel
theorem dev5_eq (c : Dev nD) : (⟨k0_dev5 c, k0_dev5_lt c⟩ : Dev nD) = peer 1 c := by revert c; decide +kernel
theorem dev6_eq (c : Dev nD) : (⟨k0_dev6 c, k0_dev6_lt c⟩ : Dev nD) = peer 2 c := by revert c; decide +kernel

def ring (k : Fin 3) : Dev nD ≃ Dev nD := ⟨peer k, peer (opp k), peer_opp k, opp_peer k⟩

/-! ## The memrefs and cells -/

/-- The device's columns of `x`, and `w`, in HBM. -/
abbrev xA : Memref sig .tc .hbm S4096x1024 .bf16 := Memref.whole main_arg0
abbrev wA : Memref sig .tc .hbm S4096x8192 .bf16 := Memref.whole main_arg1
/-- The output's staging buffer, the receive buffer, the own block of `x`, the block converted, the slots of `w`. -/
abbrev oM : Memref sig .tc .vmem S1024x8192 .f32 := Memref.whole cc0_stg0_0
abbrev rM : Memref sig .tc .vmem S3x1024x1024 .bf16 := Memref.whole cc0_scratch0
abbrev lM : Memref sig .tc .vmem S1024x1024 .bf16 := Memref.whole cc0_scratch1
abbrev fM : Memref sig .tc .vmem S1024x1024 .f32 := Memref.whole cc0_scratch2
abbrev wM : Memref sig .tc .vmem S4x1024x1024 .bf16 := Memref.whole cc0_scratch3

/-- The three slots of the receive buffer, as the transfers spell them. -/
abbrev rOff : Fin 3 → Fin 3 → ℕ := fun | 0 => ![0, 0, 0] | 1 => ![1, 0, 0] | 2 => ![2, 0, 0]
theorem rOff_inb (k : Fin 3) : ∀ i, rOff k i + S1x1024x1024.size i ≤ S3x1024x1024.size i := by revert k; decide
abbrev rS (k : Fin 3) : Memref sig .tc .vmem S1024x1024 .bf16 :=
  (rM.slice (Rect.unit (s := S3x1024x1024) (rOff k) S1x1024x1024.size (rOff_inb k)) (fun _ => rfl)).squeeze S1024x1024 squeezes_S1x1024x1024_S1024x1024

/-- The same three slots, each by its own text; and the four slots of `w`. -/
abbrev rL0 : Memref sig .tc .vmem S1024x1024 .bf16 :=
  (rM.slice (Rect.unit (s := S3x1024x1024) ![0, 0, 0] S1x1024x1024.size inb_S3x1024x1024_S1x1024x1024_0_0_0) (fun _ => rfl)).squeeze S1024x1024 squeezes_S1x1024x1024_S1024x1024
abbrev rL1 : Memref sig .tc .vmem S1024x1024 .bf16 :=
  (rM.slice (Rect.unit (s := S3x1024x1024) ![1, 0, 0] S1x1024x1024.size inb_S3x1024x1024_S1x1024x1024_1_0_0) (fun _ => rfl)).squeeze S1024x1024 squeezes_S1x1024x1024_S1024x1024
abbrev rL2 : Memref sig .tc .vmem S1024x1024 .bf16 :=
  (rM.slice (Rect.unit (s := S3x1024x1024) ![2, 0, 0] S1x1024x1024.size inb_S3x1024x1024_S1x1024x1024_2_0_0) (fun _ => rfl)).squeeze S1024x1024 squeezes_S1x1024x1024_S1024x1024
abbrev wL0 : Memref sig .tc .vmem S1024x1024 .bf16 :=
  (wM.slice (Rect.unit (s := S4x1024x1024) ![0, 0, 0] S1x1024x1024.size inb_S4x1024x1024_S1x1024x1024_0_0_0) (fun _ => rfl)).squeeze S1024x1024 squeezes_S1x1024x1024_S1024x1024
abbrev wL1 : Memref sig .tc .vmem S1024x1024 .bf16 :=
  (wM.slice (Rect.unit (s := S4x1024x1024) ![1, 0, 0] S1x1024x1024.size inb_S4x1024x1024_S1x1024x1024_1_0_0) (fun _ => rfl)).squeeze S1024x1024 squeezes_S1x1024x1024_S1024x1024
abbrev wL2 : Memref sig .tc .vmem S1024x1024 .bf16 :=
  (wM.slice (Rect.unit (s := S4x1024x1024) ![2, 0, 0] S1x1024x1024.size inb_S4x1024x1024_S1x1024x1024_2_0_0) (fun _ => rfl)).squeeze S1024x1024 squeezes_S1x1024x1024_S1024x1024
abbrev wL3 : Memref sig .tc .vmem S1024x1024 .bf16 :=
  (wM.slice (Rect.unit (s := S4x1024x1024) ![3, 0, 0] S1x1024x1024.size inb_S4x1024x1024_S1x1024x1024_3_0_0) (fun _ => rfl)).squeeze S1024x1024 squeezes_S1x1024x1024_S1024x1024

/-- The rows of `x` the `e`-th transfer of device `c` sends. -/
abbrev xOff (c : Dev nD) : Fin 3 → Fin 2 → ℕ := fun | 0 => k0_off2 c 1#32 | 1 => k0_off2 c 2#32 | 2 => k0_off2 c 3#32
theorem xOff_inb (c : Dev nD) (e : Fin 3) : ∀ i, xOff c e i + S1024x1024.size i ≤ S4096x1024.size i :=
  match e with | 0 => k0_off2_inb c 0 | 1 => k0_off2_inb c 1 | 2 => k0_off2_inb c 2
abbrev xB (c : Dev nD) (e : Fin 3) : Memref sig .tc .hbm S1024x1024 .bf16 :=
  xA.slice (Rect.unit (s := S4096x1024) (xOff c e) S1024x1024.size (xOff_inb c e)) (fun _ => rfl)

/-- The runtime's barrier semaphore (unscoped), and the send and receive semaphores as the kernel spells them. -/
abbrev barS : Sem sig := (SemArray.scalar (sig.barrier 0 rfl) : Sems sig S_).sem
abbrev sS0 : DmaSem sig := ((cc0_scratch4.slice (Rect.unit (s := S3) ![0] S1.size inb_S3_S1_0)).squeeze S_ squeezes_S1_S_).sem
abbrev sS1 : DmaSem sig := ((cc0_scratch4.slice (Rect.unit (s := S3) ![1] S1.size inb_S3_S1_1)).squeeze S_ squeezes_S1_S_).sem
abbrev sS2 : DmaSem sig := ((cc0_scratch4.slice (Rect.unit (s := S3) ![2] S1.size inb_S3_S1_2)).squeeze S_ squeezes_S1_S_).sem
abbrev rV0 : DmaSem sig := ((cc0_scratch5.slice (Rect.unit (s := S3) ![0] S1.size inb_S3_S1_0)).squeeze S_ squeezes_S1_S_).sem
abbrev rV1 : DmaSem sig := ((cc0_scratch5.slice (Rect.unit (s := S3) ![1] S1.size inb_S3_S1_1)).squeeze S_ squeezes_S1_S_).sem
abbrev rV2 : DmaSem sig := ((cc0_scratch5.slice (Rect.unit (s := S3) ![2] S1.size inb_S3_S1_2)).squeeze S_ squeezes_S1_S_).sem
abbrev sendS : Fin 3 → DmaSem sig := fun | 0 => sS0 | 1 => sS1 | 2 => sS2
abbrev recvS : Fin 3 → DmaSem sig := fun | 0 => rV0 | 1 => rV1 | 2 => rV2

abbrev barCell (c : Dev nD) : GSem nD τ sig := ((c : Thread nD τ), .reg barS)
abbrev sendCell (c : Dev nD) (e : Fin 3) : GSem nD τ sig := ((c : Thread nD τ), .dma (sendS e))
abbrev recvCell (c : Dev nD) (k : Fin 3) : GSem nD τ sig := ((c : Thread nD τ), .dma (recvS k))

/-- What one transfer of a block credits. -/
abbrev N : ℕ := (rS 0).view.dmaCredit
theorem N_pos : 0 < N := View.dmaCredit_pos _ (by decide)

/-! ## Roles of cells -/

inductive Role where
  | bar | send (e : Fin 3) | recv (k : Fin 3) | other
  deriving DecidableEq

def role : SemLoc sig → Role
  | .reg s => if s = barS then .bar else .other
  | .dma d => if d = sendS 0 then .send 0 else if d = sendS 1 then .send 1 else if d = sendS 2 then .send 2
      else if d = recvS 0 then .recv 0 else if d = recvS 1 then .recv 1 else if d = recvS 2 then .recv 2 else .other

theorem role_bar : role (.reg barS) = .bar := by decide
theorem role_send (e : Fin 3) : role (.dma (sendS e)) = .send e := by revert e; decide
theorem role_recv (k : Fin 3) : role (.dma (recvS k)) = .recv k := by revert k; decide

/-! ## Contents -/

/-- Device `c`'s columns of `x` and its copy of `w`, as the launch finds them. -/
def xv (c : Dev nD) : (main_arg0 : Ref sig .tc).ty.Contents (Elt F) := m ((c : Thread nD τ).loc main_arg0)
def wv (c : Dev nD) : (main_arg1 : Ref sig .tc).ty.Contents (Elt F) := m ((c : Thread nD τ).loc main_arg1)

/-- The block that lands in slot `k` of device `c`. -/
def blk (c : Dev nD) (k : Fin 3) : S1024x1024.Idx → Elt F .bf16 := (xB (peer k c) (opp k)).view.read (Elt F) (xv m (peer k c))

/-- Slot `k` of device `c` at contents `f`, and the rows the `e`-th transfer reads at share `q`. -/
def slotPts (c : Dev nD) (k : Fin 3) (f : Buf (Elt F) ((rS k).view.loc (c : Thread nD τ))) : sProp 𝕄 :=
  (rS k).view.loc (c : Thread nD τ) ↦[(rS k).view.set]{fullShare} f
def rowsPts (c : Dev nD) (e : Fin 3) : sProp 𝕄 :=
  (xB c e).view.loc (c : Thread nD τ) ↦[(xB c e).view.set]{Transfers.shareTokN fullShare.right (e.val + 1)} xv m c

/-- Slot `k` of device `c` with the block it is sent in it. -/
def landed (c : Dev nD) (k : Fin 3) : Buf (Elt F) ((rS k).view.loc (c : Thread nD τ)) :=
  (rS k).view.write (Elt F) (m ((rS k).view.loc (c : Thread nD τ))) (blk m c k) Finset.univ

omit [FloatOps F] in
instance slotPts_storable (c : Dev nD) (k) (f) : BI.Storable (upEmb : UEmb _ 𝕄) (slotPts (F := F) c k f) := by unfold slotPts; infer_instance
omit [FloatOps F] in
instance rowsPts_storable (c : Dev nD) (e) : BI.Storable (upEmb : UEmb _ 𝕄) (rowsPts (F := F) m c e) := by unfold rowsPts; infer_instance

omit [FloatOps F] in
/-- Whatever the slot held, the block written into it is the same slot. -/
theorem slotPts_landed (c : Dev nD) (k : Fin 3) (f : Buf (Elt F) ((rS k).view.loc (c : Thread nD τ))) :
    slotPts c k ((rS k).view.write (Elt F) f (blk m c k) Finset.univ) = slotPts c k (landed m c k) := by
  unfold slotPts landed
  exact pointsTo_congr fun i hi => by
    obtain ⟨j, -, rfl⟩ := Finset.mem_map.mp hi
    rw [View.write_emb_of_mem _ _ (Finset.mem_univ j), View.write_emb_of_mem _ _ (Finset.mem_univ j)]

/-! ## The schedule -/

/-- What duty `k` of `c`'s barrier cell hands `c`: the payer's receive slot `k` and that it has reached round 0 of that slot's cell. -/
def barPay (c : Dev nD) (k : Fin 3) : sProp 𝕄 :=
  iprop((∃ f, slotPts (peer (opp k) c) k f) ∗ reached ER (recvCell (peer (opp k) c) k) 0)
def recvPay (c : Dev nD) (k : Fin 3) : sProp 𝕄 := slotPts c k (landed m c k)

def rd : Rounds.Schedule (GSem nD τ sig) (Fin 3) 𝕄 where
  duties g r := if r = 0 ∧ g.1.2 = .tc then (match role g.2 with | .bar => Finset.univ | .send _ => {0} | .recv _ => {0} | .other => ∅) else ∅
  unitless _ := False
  amount g _ _ := if role g.2 = .bar then 1 else N
  payload g _ d := match role g.2 with
    | .bar => barPay g.1.1 d
    | .send e => rowsPts m g.1.1 e
    | .recv k => recvPay m g.1.1 k
    | .other => iprop(emp)
  amount_pos g _ _ _ := by
    by_cases h : role g.2 = .bar
    · rw [if_pos h]; exact Nat.one_pos
    · rw [if_neg h]; exact N_pos

instance rd_payload_storable (g : GSem nD τ sig) (r : ℕ) (d : Fin 3) :
    BI.Storable (upEmb : UEmb _ 𝕄) ((rd (F := F) m).payload g r d) := by
  show BI.Storable upEmb (match role g.2 with
    | .bar => barPay g.1.1 d | .send e => rowsPts m g.1.1 e | .recv k => recvPay m g.1.1 k | .other => iprop(emp))
  unfold barPay recvPay
  split <;> infer_instance

section Sched
variable (c : Dev nD) (e k : Fin 3) (d : Fin 3)

omit [FloatOps F] in
theorem duties_bar : (rd (F := F) m).duties (barCell c) 0 = Finset.univ := by
  dsimp only [rd]; rw [if_pos ⟨rfl, rfl⟩, role_bar]
omit [FloatOps F] in
theorem duties_send : (rd (F := F) m).duties (sendCell c e) 0 = {0} := by
  dsimp only [rd]; rw [if_pos ⟨rfl, rfl⟩, role_send]
omit [FloatOps F] in
theorem duties_recv : (rd (F := F) m).duties (recvCell c k) 0 = {0} := by
  dsimp only [rd]; rw [if_pos ⟨rfl, rfl⟩, role_recv]
omit [FloatOps F] in
theorem duties_later (g : GSem nD τ sig) : ∀ r, 1 ≤ r → (rd (F := F) m).duties g r = ∅ :=
  fun r hr => by dsimp only [rd]; rw [if_neg fun h => by omega]

omit [FloatOps F] in
theorem amount_bar : (rd (F := F) m).amount (barCell c) 0 d = 1 := by dsimp only [rd]; rw [role_bar]; exact if_pos rfl
omit [FloatOps F] in
theorem amount_send : (rd (F := F) m).amount (sendCell c e) 0 d = N := by dsimp only [rd]; rw [role_send]; exact if_neg (by intro h; cases h)
omit [FloatOps F] in
theorem amount_recv : (rd (F := F) m).amount (recvCell c k) 0 d = N := by dsimp only [rd]; rw [role_recv]; exact if_neg (by intro h; cases h)

omit [FloatOps F] in
theorem expect_bar : (rd (F := F) m).expect (barCell c) 0 = 3 := by
  unfold Schedule.expect Schedule.amountOf
  rw [duties_bar, Finset.sum_congr rfl fun d _ => amount_bar m c d, Finset.sum_const, Finset.card_univ, Fintype.card_fin, smul_eq_mul]
omit [FloatOps F] in
theorem expect_send : (rd (F := F) m).expect (sendCell c e) 0 = N := by
  unfold Schedule.expect Schedule.amountOf; rw [duties_send, Finset.sum_singleton, amount_send]
omit [FloatOps F] in
theorem expect_recv : (rd (F := F) m).expect (recvCell c k) 0 = N := by
  unfold Schedule.expect Schedule.amountOf; rw [duties_recv, Finset.sum_singleton, amount_recv]

omit [FloatOps F] in
theorem payload_bar : (rd (F := F) m).payload (barCell c) 0 d = barPay c d := by dsimp only [rd]; rw [role_bar]
omit [FloatOps F] in
theorem payload_send : (rd (F := F) m).payload (sendCell c e) 0 d = rowsPts m c e := by dsimp only [rd]; rw [role_send]
omit [FloatOps F] in
theorem payload_recv : (rd (F := F) m).payload (recvCell c k) 0 d = recvPay m c k := by dsimp only [rd]; rw [role_recv]

omit [FloatOps F] in
theorem rest_bar : bigSep ((rd (F := F) m).duties (barCell c) 0 \ ∅) (fun d => (rd (F := F) m).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton,
    payload_bar, payload_bar, payload_bar]
  rfl
omit [FloatOps F] in
theorem rest_send : bigSep ((rd (F := F) m).duties (sendCell c e) 0 \ ∅) (fun d => (rd (F := F) m).payload (sendCell c e) 0 d) = rowsPts m c e := by
  rw [Finset.sdiff_empty, duties_send, bigSep_singleton, payload_send]
omit [FloatOps F] in
theorem rest_recv : bigSep ((rd (F := F) m).duties (recvCell c k) 0 \ ∅) (fun d => (rd (F := F) m).payload (recvCell c k) 0 d) = recvPay m c k := by
  rw [Finset.sdiff_empty, duties_recv, bigSep_singleton, payload_recv]

/-! The tables at each cell's own text, as the symbolic execution reads them. -/

omit [FloatOps F] in
theorem pay_bar0 : (rd (F := F) m).payload (barCell c) 0 0 =
    iprop((∃ f : Buf (Elt F) (rL0.view.loc (peer 2 c : Thread nD τ)), rL0.view.loc (peer 2 c : Thread nD τ) ↦[rL0.view.set]{fullShare} f) ∗ reached ER ((peer 2 c : Thread nD τ), .dma rV0) 0) := payload_bar m c 0
omit [FloatOps F] in
theorem pay_bar1 : (rd (F := F) m).payload (barCell c) 0 1 =
    iprop((∃ f : Buf (Elt F) (rL1.view.loc (peer 1 c : Thread nD τ)), rL1.view.loc (peer 1 c : Thread nD τ) ↦[rL1.view.set]{fullShare} f) ∗ reached ER ((peer 1 c : Thread nD τ), .dma rV1) 0) := payload_bar m c 1
omit [FloatOps F] in
theorem pay_bar2 : (rd (F := F) m).payload (barCell c) 0 2 =
    iprop((∃ f : Buf (Elt F) (rL2.view.loc (peer 0 c : Thread nD τ)), rL2.view.loc (peer 0 c : Thread nD τ) ↦[rL2.view.set]{fullShare} f) ∗ reached ER ((peer 0 c : Thread nD τ), .dma rV2) 0) := payload_bar m c 2
omit [FloatOps F] in
theorem dut_send0 : (rd (F := F) m).duties ((c : Thread nD τ), .dma sS0) 0 = {0} := duties_send m c 0
omit [FloatOps F] in
theorem amt_send0 : (rd (F := F) m).amount ((c : Thread nD τ), .dma sS0) 0 d = N := amount_send m c 0 d
omit [FloatOps F] in
theorem exp_send0 : (rd (F := F) m).expect ((c : Thread nD τ), .dma sS0) 0 = N := expect_send m c 0
omit [FloatOps F] in
theorem pay_send0 : (rd (F := F) m).payload ((c : Thread nD τ), .dma sS0) 0 d = rowsPts m c 0 := payload_send m c 0 d
omit [FloatOps F] in
theorem dut_recv0 : (rd (F := F) m).duties ((c : Thread nD τ), .dma rV0) 0 = {0} := duties_recv m c 0
omit [FloatOps F] in
theorem amt_recv0 : (rd (F := F) m).amount ((c : Thread nD τ), .dma rV0) 0 d = N := amount_recv m c 0 d
omit [FloatOps F] in
theorem exp_recv0 : (rd (F := F) m).expect ((c : Thread nD τ), .dma rV0) 0 = N := expect_recv m c 0
omit [FloatOps F] in
theorem pay_recv0 : (rd (F := F) m).payload ((c : Thread nD τ), .dma rV0) 0 d = (rL0.view.loc (c : Thread nD τ) ↦[rL0.view.set]{fullShare} landed m c 0) := payload_recv m c 0 d
omit [FloatOps F] in
theorem dut_send1 : (rd (F := F) m).duties ((c : Thread nD τ), .dma sS1) 0 = {0} := duties_send m c 1
omit [FloatOps F] in
theorem amt_send1 : (rd (F := F) m).amount ((c : Thread nD τ), .dma sS1) 0 d = N := amount_send m c 1 d
omit [FloatOps F] in
theorem exp_send1 : (rd (F := F) m).expect ((c : Thread nD τ), .dma sS1) 0 = N := expect_send m c 1
omit [FloatOps F] in
theorem pay_send1 : (rd (F := F) m).payload ((c : Thread nD τ), .dma sS1) 0 d = rowsPts m c 1 := payload_send m c 1 d
omit [FloatOps F] in
theorem dut_recv1 : (rd (F := F) m).duties ((c : Thread nD τ), .dma rV1) 0 = {0} := duties_recv m c 1
omit [FloatOps F] in
theorem amt_recv1 : (rd (F := F) m).amount ((c : Thread nD τ), .dma rV1) 0 d = N := amount_recv m c 1 d
omit [FloatOps F] in
theorem exp_recv1 : (rd (F := F) m).expect ((c : Thread nD τ), .dma rV1) 0 = N := expect_recv m c 1
omit [FloatOps F] in
theorem pay_recv1 : (rd (F := F) m).payload ((c : Thread nD τ), .dma rV1) 0 d = (rL1.view.loc (c : Thread nD τ) ↦[rL1.view.set]{fullShare} landed m c 1) := payload_recv m c 1 d
omit [FloatOps F] in
theorem dut_send2 : (rd (F := F) m).duties ((c : Thread nD τ), .dma sS2) 0 = {0} := duties_send m c 2
omit [FloatOps F] in
theorem amt_send2 : (rd (F := F) m).amount ((c : Thread nD τ), .dma sS2) 0 d = N := amount_send m c 2 d
omit [FloatOps F] in
theorem exp_send2 : (rd (F := F) m).expect ((c : Thread nD τ), .dma sS2) 0 = N := expect_send m c 2
omit [FloatOps F] in
theorem pay_send2 : (rd (F := F) m).payload ((c : Thread nD τ), .dma sS2) 0 d = rowsPts m c 2 := payload_send m c 2 d
omit [FloatOps F] in
theorem dut_recv2 : (rd (F := F) m).duties ((c : Thread nD τ), .dma rV2) 0 = {0} := duties_recv m c 2
omit [FloatOps F] in
theorem amt_recv2 : (rd (F := F) m).amount ((c : Thread nD τ), .dma rV2) 0 d = N := amount_recv m c 2 d
omit [FloatOps F] in
theorem exp_recv2 : (rd (F := F) m).expect ((c : Thread nD τ), .dma rV2) 0 = N := expect_recv m c 2
omit [FloatOps F] in
theorem pay_recv2 : (rd (F := F) m).payload ((c : Thread nD τ), .dma rV2) 0 d = (rL2.view.loc (c : Thread nD τ) ↦[rL2.view.set]{fullShare} landed m c 2) := payload_recv m c 2 d

end Sched

/-! ## What each core owes at launch; the levels -/

/-- What is left after the three signals: the three blocks' credit, the first transfer's last. -/
def O₃ (c : Dev nD) : CellTallies nD τ sig Unit :=
  tallyAt (recvCell (peer 2 c) 0) () N + tallyAt (recvCell (peer 1 c) 1) () N + tallyAt (recvCell (peer 0 c) 2) () N
def O₂ (c : Dev nD) : CellTallies nD τ sig Unit := O₃ c + tallyAt (barCell (peer 2 c)) () 1
def O₁ (c : Dev nD) : CellTallies nD τ sig Unit := O₂ c + tallyAt (barCell (peer 1 c)) () 1
def O₀ (c : Dev nD) : CellTallies nD τ sig Unit := O₁ c + tallyAt (barCell (peer 0 c)) () 1

def L (g : GSem nD τ sig) : Finset Unit := if g.1.2 = .tc then {()} else ∅
/-- Barrier cells at 1, receive cells at 2, everything else at 0. -/
def lv (g : GSem nD τ sig) (_ : Unit) : ℕ := match role g.2 with | .bar => 1 | .recv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := by unfold lv; rw [role_bar]
theorem lv_recv (c : Dev nD) (k : Fin 3) : lv (recvCell c k) () = 2 := by unfold lv; rw [role_recv]

/-- A cell a tally is at. -/
theorem tally_pos {g g' : GSem nD τ sig} {n : ℕ} {u : Unit} (h : 0 < (tallyAt g () n : CellTallies nD τ sig Unit) g' u) : g' = g := by
  rw [tallyAt_apply] at h
  by_contra hn
  rw [if_neg (fun h' => hn h'.1)] at h
  exact Nat.lt_irrefl 0 h

theorem O₃_pos {c : Dev nD} {g : GSem nD τ sig} {u : Unit} (h : 0 < O₃ c g u) : ∃ c' k, g = recvCell c' k := by
  unfold O₃ at h
  rw [Pi.add_apply, Finsupp.add_apply, Pi.add_apply, Finsupp.add_apply] at h
  rcases Nat.add_pos_iff_pos_or_pos.mp h with h | h
  · rcases Nat.add_pos_iff_pos_or_pos.mp h with h | h
    · exact ⟨_, _, tally_pos h⟩
    · exact ⟨_, _, tally_pos h⟩
  · exact ⟨_, _, tally_pos h⟩

theorem O₀_pos {c : Dev nD} {g : GSem nD τ sig} {u : Unit} (h : 0 < O₀ c g u) : (∃ c' k, g = recvCell c' k) ∨ ∃ c', g = barCell c' := by
  unfold O₀ O₁ O₂ at h
  rw [Pi.add_apply, Finsupp.add_apply, Pi.add_apply, Finsupp.add_apply, Pi.add_apply, Finsupp.add_apply] at h
  rcases Nat.add_pos_iff_pos_or_pos.mp h with h | h
  · rcases Nat.add_pos_iff_pos_or_pos.mp h with h | h
    · rcases Nat.add_pos_iff_pos_or_pos.mp h with h | h
      · exact Or.inl (O₃_pos h)
      · exact Or.inr ⟨_, tally_pos h⟩
    · exact Or.inr ⟨_, tally_pos h⟩
  · exact Or.inr ⟨_, tally_pos h⟩

omit [FloatOps F] in
theorem mayWait_stage (c : Dev nD) (q : DmaSem sig) (hq : role (.dma q) = .other) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨c', k, rfl⟩ | ⟨c', rfl⟩ <;> exact Finset.mem_singleton_self _)
      (fun p hp => by rw [Finset.mem_singleton.mp hp]; unfold lv; dsimp only; rw [hq])
      (fun g u hg => by
        cases u
        rcases O₀_pos hg with ⟨c', k, rfl⟩ | ⟨c', rfl⟩
        · rw [lv_recv]; decide
        · rw [lv_bar]; decide)
  · rw [MayWait_zero]; iintro -; iempintro

omit [FloatOps F] in
/-- At its barrier wait a device owes three receive cells only: above its barrier cell. -/
theorem mayWait_bar (c : Dev nD) : (levAts L lv : sProp 𝕄) ⊢ MayWait (c : Thread nD τ) (.reg barS) () (O₃ c) :=
  MayOwe.of_cut (L := L) (lev := lv) 1 (fun p hp => by rw [Finset.mem_singleton.mp hp, L_tc]; exact Finset.mem_singleton_self _)
    (fun g u hg => by obtain ⟨c', k, rfl⟩ := O₃_pos hg; exact Finset.mem_singleton_self _)
    (fun p hp => by rw [Finset.mem_singleton.mp hp, lv_bar])
    (fun g u hg => by cases u; obtain ⟨c', k, rfl⟩ := O₃_pos hg; rw [lv_recv]; decide)

end Cert.KernelIdealProof

end
-- ==== Proof.KernelIdeal.Body.lean ====
/-
# The kernel's body, executed

From the device's share of the ring's resources and its buffers (`bodyIn`) the whole body runs. `run` states what it
leaves (`bodyOut`), the list of the stores into the output's staging buffer among it.
-/
module

public import proofs.«01_k».proof.Proof.KernelIdeal.Common
public import Idealize.ShloMosaic.Lib.Tactic

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]
local notation "𝕄" => MT nD τ sig Unit (Elt F) ℕ UU ℕ
variable (m : (ℓ : Loc nD τ sig) → Buf (Elt F) ℓ) (ρ : Dev nD → PrngReg)

attribute [local sl_rounds] duties_bar amount_bar expect_bar
  dut_send0 dut_send1 dut_send2 amt_send0 amt_send1 amt_send2 exp_send0 exp_send1 exp_send2 pay_send0 pay_send1 pay_send2
  dut_recv0 dut_recv1 dut_recv2 amt_recv0 amt_recv1 amt_recv2 exp_recv0 exp_recv1 exp_recv2 pay_recv0 pay_recv1 pay_recv2

abbrev 𝒱₀ : Variants := Variants.none
omit [FloatOps F] in
theorem pay_sig0 (c : Dev nD) : (rd (F := F) m).payload (barCell (peer 0 c)) 0 0 =
    iprop((∃ f : Buf (Elt F) (rL0.view.loc (c : Thread nD τ)), rL0.view.loc (c : Thread nD τ) ↦[rL0.view.set]{fullShare} f) ∗ reached ER ((c : Thread nD τ), .dma rV0) 0) := by
  rw [payload_bar]; unfold barPay; rw [peer_opp]; rfl
omit [FloatOps F] in
theorem pay_sig1 (c : Dev nD) : (rd (F := F) m).payload (barCell (peer 1 c)) 0 1 =
    iprop((∃ f : Buf (Elt F) (rL1.view.loc (c : Thread nD τ)), rL1.view.loc (c : Thread nD τ) ↦[rL1.view.set]{fullShare} f) ∗ reached ER ((c : Thread nD τ), .dma rV1) 0) := by
  rw [payload_bar]; unfold barPay; rw [peer_opp]; rfl
omit [FloatOps F] in
theorem pay_sig2 (c : Dev nD) : (rd (F := F) m).payload (barCell (peer 2 c)) 0 2 =
    iprop((∃ f : Buf (Elt F) (rL2.view.loc (c : Thread nD τ)), rL2.view.loc (c : Thread nD τ) ↦[rL2.view.set]{fullShare} f) ∗ reached ER ((c : Thread nD τ), .dma rV2) 0) := by
  rw [payload_bar]; unfold barPay; rw [peer_opp]; rfl
attribute [local sl_rounds] pay_sig0 pay_sig1 pay_sig2

variable (K : Dev nD × Fin 7 → ℕ)

abbrev xSrc (c : Dev nD) : Memref sig .tc .hbm S1024x1024 .bf16 := xA.slice (Rect.unit (s := S4096x1024) (k0_off1 c) S1024x1024.size (k0_off1_inb c)) (fun _ => rfl)

omit [FloatOps F] in
theorem blk_sent (c : Dev nD) (e : Fin 3) : blk m (peer e c) (opp e) = (xB c e).view.read (Elt F) (xv m c) := by
  have h : ∀ (d : Dev nD) (e' : Fin 3), d = c → e' = e → (xB d e').view.read (Elt F) (xv m d) = (xB c e).view.read (Elt F) (xv m c) := by
    rintro _ _ rfl rfl; rfl
  exact h _ _ (peer_opp e c) (opp_opp e)

/-- One of the three transfers: device `c` sends the rows `xB c e` to slot `opp e` of `peer e c`. -/
theorem wp_send_ring (c n : Dev nD) (e : Fin 3) (hn : n = peer e c) (K₁ K₂ : ℕ)
    {α : Type} {Q : α → sProp 𝕄} {hsc hsrc hdst hsem} (k : PUnit → Prog (TpuEff nD τ sig (Elt F) Λ₀ .tc) α)
    (fn : Buf (Elt F) ((rS (opp e)).view.loc (peer e c : Thread nD τ))) (O : CellTallies nD τ sig Unit) (W : Waits sig Unit) :
    iprop(cellInv ER (rd m) K₁ (sendCell c e) ∗ cellInv ER (rd m) K₂ (recvCell (peer e c) (opp e))
        ∗ rowsPts m c e ∗ slotPts (peer e c) (opp e) fn
        ∗ owes (c : Thread nD τ) (O + tallyAt (recvCell (peer e c) (opp e)) () N) W
        ∗ dutyTok ER (sendCell c e) 0 0 ∗ reached ER (sendCell c e) 0
        ∗ dutyTok ER (recvCell (peer e c) (opp e)) 0 0 ∗ reached ER (recvCell (peer e c) (opp e)) 0)
      ⊢ iprop(((cred (tallyAt (sendCell c e) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xB c e) (.remote (Dev.tc n : Thread nD τ) (rS (opp e)) (.dma (sendS e)) hsc) (.dma (recvS (opp e))) hsrc hdst hsem) k) Q) := by
  subst hn
  unfold rowsPts slotPts
  exact Rounds.wp_send_pointsTo 𝒱₀ ER (rd m) (c : Thread nD τ) none (κ₁ := K₁) (κ₂ := K₂)
    (r₁ := 0) (r₂ := 0) (d₁ := 0) (d₂ := 0) (fd := fn)
    (by rw [duties_send]; exact Finset.mem_singleton_self _) (by rw [duties_recv]; exact Finset.mem_singleton_self _)
    () () N rfl (amount_send m c e 0) (amount_recv m (peer e c) (opp e) 0) O rfl (W := W)
    (by rw [payload_send]; exact BI.Entails.refl _)
    (by rw [payload_recv]; unfold recvPay; rw [← slotPts_landed (f := fn), blk_sent]; exact BI.Entails.refl _)

theorem wp_send0 (c n : Dev nD) (hn : n = peer 0 c) (K₁ K₂ : ℕ)
    {α : Type} {Q : α → sProp 𝕄} {hsc hsrc hdst hsem} (k : PUnit → Prog (TpuEff nD τ sig (Elt F) Λ₀ .tc) α)
    (fn : Buf (Elt F) (rL2.view.loc (peer 0 c : Thread nD τ))) (O : CellTallies nD τ sig Unit) (W : Waits sig Unit) :
    iprop(cellInv ER (rd m) K₁ ((c : Thread nD τ), .dma sS0) ∗ cellInv ER (rd m) K₂ ((peer 0 c : Thread nD τ), .dma rV2)
        ∗ rowsPts m c 0 ∗ (rL2.view.loc (peer 0 c : Thread nD τ) ↦[rL2.view.set]{fullShare} fn)
        ∗ owes (c : Thread nD τ) (O + tallyAt ((peer 0 c : Thread nD τ), .dma rV2) () N) W
        ∗ dutyTok ER ((c : Thread nD τ), .dma sS0) 0 0 ∗ reached ER ((c : Thread nD τ), .dma sS0) 0
        ∗ dutyTok ER ((peer 0 c : Thread nD τ), .dma rV2) 0 0 ∗ reached ER ((peer 0 c : Thread nD τ), .dma rV2) 0)
      ⊢ iprop(((cred (tallyAt ((c : Thread nD τ), .dma sS0) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xA.slice (Rect.unit (s := S4096x1024) (k0_off2 c 1#32) S1024x1024.size (k0_off2_inb c 0)) (fun _ => rfl))
                (.remote (Dev.tc n : Thread nD τ) rL2 (.dma sS0) hsc) (.dma rV2) hsrc hdst hsem) k) Q) :=
  wp_send_ring m c n 0 hn K₁ K₂ k fn O W

theorem wp_send1 (c n : Dev nD) (hn : n = peer 1 c) (K₁ K₂ : ℕ)
    {α : Type} {Q : α → sProp 𝕄} {hsc hsrc hdst hsem} (k : PUnit → Prog (TpuEff nD τ sig (Elt F) Λ₀ .tc) α)
    (fn : Buf (Elt F) (rL1.view.loc (peer 1 c : Thread nD τ))) (O : CellTallies nD τ sig Unit) (W : Waits sig Unit) :
    iprop(cellInv ER (rd m) K₁ ((c : Thread nD τ), .dma sS1) ∗ cellInv ER (rd m) K₂ ((peer 1 c : Thread nD τ), .dma rV1)
        ∗ rowsPts m c 1 ∗ (rL1.view.loc (peer 1 c : Thread nD τ) ↦[rL1.view.set]{fullShare} fn)
        ∗ owes (c : Thread nD τ) (O + tallyAt ((peer 1 c : Thread nD τ), .dma rV1) () N) W
        ∗ dutyTok ER ((c : Thread nD τ), .dma sS1) 0 0 ∗ reached ER ((c : Thread nD τ), .dma sS1) 0
        ∗ dutyTok ER ((peer 1 c : Thread nD τ), .dma rV1) 0 0 ∗ reached ER ((peer 1 c : Thread nD τ), .dma rV1) 0)
      ⊢ iprop(((cred (tallyAt ((c : Thread nD τ), .dma sS1) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xA.slice (Rect.unit (s := S4096x1024) (k0_off2 c 2#32) S1024x1024.size (k0_off2_inb c 1)) (fun _ => rfl))
                (.remote (Dev.tc n : Thread nD τ) rL1 (.dma sS1) hsc) (.dma rV1) hsrc hdst hsem) k) Q) :=
  wp_send_ring m c n 1 hn K₁ K₂ k fn O W

theorem wp_send2 (c n : Dev nD) (hn : n = peer 2 c) (K₁ K₂ : ℕ)
    {α : Type} {Q : α → sProp 𝕄} {hsc hsrc hdst hsem} (k : PUnit → Prog (TpuEff nD τ sig (Elt F) Λ₀ .tc) α)
    (fn : Buf (Elt F) (rL0.view.loc (peer 2 c : Thread nD τ))) (O : CellTallies nD τ sig Unit) (W : Waits sig Unit) :
    iprop(cellInv ER (rd m) K₁ ((c : Thread nD τ), .dma sS2) ∗ cellInv ER (rd m) K₂ ((peer 2 c : Thread nD τ), .dma rV0)
        ∗ rowsPts m c 2 ∗ (rL0.view.loc (peer 2 c : Thread nD τ) ↦[rL0.view.set]{fullShare} fn)
        ∗ owes (c : Thread nD τ) (O + tallyAt ((peer 2 c : Thread nD τ), .dma rV0) () N) W
        ∗ dutyTok ER ((c : Thread nD τ), .dma sS2) 0 0 ∗ reached ER ((c : Thread nD τ), .dma sS2) 0
        ∗ dutyTok ER ((peer 2 c : Thread nD τ), .dma rV0) 0 0 ∗ reached ER ((peer 2 c : Thread nD τ), .dma rV0) 0)
      ⊢ iprop(((cred (tallyAt ((c : Thread nD τ), .dma sS2) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xA.slice (Rect.unit (s := S4096x1024) (k0_off2 c 3#32) S1024x1024.size (k0_off2_inb c 2)) (fun _ => rfl))
                (.remote (Dev.tc n : Thread nD τ) rL0 (.dma sS2) hsc) (.dma rV0) hsrc hdst hsem) k) Q) :=
  wp_send_ring m c n 2 hn K₁ K₂ k fn O W

theorem bar_pays (c : Dev nD) : (bigSep Finset.univ fun d => (rd (F := F) m).payload (barCell c) 0 d) ⊢
    iprop((∃ f : Buf (Elt F) (rL0.view.loc (peer 2 c : Thread nD τ)), rL0.view.loc (peer 2 c : Thread nD τ) ↦[rL0.view.set]{fullShare} f)
      ∗ reached ER ((peer 2 c : Thread nD τ), .dma rV0) 0
      ∗ (∃ f : Buf (Elt F) (rL1.view.loc (peer 1 c : Thread nD τ)), rL1.view.loc (peer 1 c : Thread nD τ) ↦[rL1.view.set]{fullShare} f)
      ∗ reached ER ((peer 1 c : Thread nD τ), .dma rV1) 0
      ∗ (∃ f : Buf (Elt F) (rL2.view.loc (peer 0 c : Thread nD τ)), rL2.view.loc (peer 0 c : Thread nD τ) ↦[rL2.view.set]{fullShare} f)
      ∗ reached ER ((peer 0 c : Thread nD τ), .dma rV2) 0) := by
  rw [bigSep_univ_eq_bigSepL [0, 1, 2] (by decide) (by decide), bigSepL_cons_cons, bigSepL_cons_cons, bigSepL_singleton, pay_bar0, pay_bar1, pay_bar2]
  show iprop(((∃ f : Buf (Elt F) (rL0.view.loc (peer 2 c : Thread nD τ)), rL0.view.loc (peer 2 c : Thread nD τ) ↦[rL0.view.set]{fullShare} f) ∗ reached ER ((peer 2 c : Thread nD τ), .dma rV0) 0)
    ∗ ((∃ f : Buf (Elt F) (rL1.view.loc (peer 1 c : Thread nD τ)), rL1.view.loc (peer 1 c : Thread nD τ) ↦[rL1.view.set]{fullShare} f) ∗ reached ER ((peer 1 c : Thread nD τ), .dma rV1) 0)
    ∗ ((∃ f : Buf (Elt F) (rL2.view.loc (peer 0 c : Thread nD τ)), rL2.view.loc (peer 0 c : Thread nD τ) ↦[rL2.view.set]{fullShare} f) ∗ reached ER ((peer 0 c : Thread nD τ), .dma rV2) 0)) ⊢ _
  iintro ⟨⟨H0, H0'⟩, ⟨H1, H1'⟩, ⟨H2, H2'⟩⟩
  isplitl [H0]; · iexact H0
  isplitl [H0']; · iexact H0'
  isplitl [H1]; · iexact H1
  isplitl [H1']; · iexact H1'
  isplitl [H2]; · iexact H2
  iexact H2'

abbrev cS0 : DmaSem sig := ((cc0_scratch6.slice (Rect.unit (s := S4) ![0] S1.size inb_S4_S1_0)).squeeze S_ squeezes_S1_S_).sem
abbrev cS1 : DmaSem sig := ((cc0_scratch6.slice (Rect.unit (s := S4) ![1] S1.size inb_S4_S1_1)).squeeze S_ squeezes_S1_S_).sem
abbrev cS2 : DmaSem sig := ((cc0_scratch6.slice (Rect.unit (s := S4) ![2] S1.size inb_S4_S1_2)).squeeze S_ squeezes_S1_S_).sem
abbrev cS3 : DmaSem sig := ((cc0_scratch6.slice (Rect.unit (s := S4) ![3] S1.size inb_S4_S1_3)).squeeze S_ squeezes_S1_S_).sem

/-- What the body starts from on device `c`. -/
abbrev bodyIn (c : Dev nD) (W : Waits sig Unit) : sProp 𝕄 := iprop(
    (cellInv ER (rd m) (K (c, 0)) (barCell c)
      ∗ cellInv ER (rd m) (K (peer 0 c, 0)) (barCell (peer 0 c)) ∗ cellInv ER (rd m) (K (peer 1 c, 0)) (barCell (peer 1 c)) ∗ cellInv ER (rd m) (K (peer 2 c, 0)) (barCell (peer 2 c))
      ∗ cellInv ER (rd m) (K (c, 1)) ((c : Thread nD τ), .dma sS0) ∗ cellInv ER (rd m) (K (c, 2)) ((c : Thread nD τ), .dma sS1) ∗ cellInv ER (rd m) (K (c, 3)) ((c : Thread nD τ), .dma sS2)
      ∗ cellInv ER (rd m) (K (c, 4)) ((c : Thread nD τ), .dma rV0) ∗ cellInv ER (rd m) (K (c, 5)) ((c : Thread nD τ), .dma rV1) ∗ cellInv ER (rd m) (K (c, 6)) ((c : Thread nD τ), .dma rV2)
      ∗ cellInv ER (rd m) (K (peer 2 c, 4)) ((peer 2 c : Thread nD τ), .dma rV0) ∗ cellInv ER (rd m) (K (peer 1 c, 5)) ((peer 1 c : Thread nD τ), .dma rV1) ∗ cellInv ER (rd m) (K (peer 0 c, 6)) ((peer 0 c : Thread nD τ), .dma rV2))
    ∗ (reached ER (barCell (peer 0 c)) 0 ∗ reached ER (barCell (peer 1 c)) 0 ∗ reached ER (barCell (peer 2 c)) 0
      ∗ reached ER ((c : Thread nD τ), .dma rV0) 0 ∗ reached ER ((c : Thread nD τ), .dma rV1) 0 ∗ reached ER ((c : Thread nD τ), .dma rV2) 0
      ∗ reached ER ((c : Thread nD τ), .dma sS0) 0 ∗ reached ER ((c : Thread nD τ), .dma sS1) 0 ∗ reached ER ((c : Thread nD τ), .dma sS2) 0)
    ∗ (dutyTok ER (barCell (peer 0 c)) 0 0 ∗ dutyTok ER (barCell (peer 1 c)) 0 1 ∗ dutyTok ER (barCell (peer 2 c)) 0 2
      ∗ dutyTok ER ((c : Thread nD τ), .dma sS0) 0 0 ∗ dutyTok ER ((c : Thread nD τ), .dma sS1) 0 0 ∗ dutyTok ER ((c : Thread nD τ), .dma sS2) 0 0
      ∗ dutyTok ER ((peer 2 c : Thread nD τ), .dma rV0) 0 0 ∗ dutyTok ER ((peer 1 c : Thread nD τ), .dma rV1) 0 0 ∗ dutyTok ER ((peer 0 c : Thread nD τ), .dma rV2) 0 0)
    ∗ (atPos ER (barCell c) 0 ∅ 0 ∗ atPos ER ((c : Thread nD τ), .dma rV0) 0 ∅ 0 ∗ atPos ER ((c : Thread nD τ), .dma rV1) 0 ∅ 0 ∗ atPos ER ((c : Thread nD τ), .dma rV2) 0 ∅ 0
      ∗ atPos ER ((c : Thread nD τ), .dma sS0) 0 ∅ 0 ∗ atPos ER ((c : Thread nD τ), .dma sS1) 0 ∅ 0 ∗ atPos ER ((c : Thread nD τ), .dma sS2) 0 ∅ 0)
    ∗ (cred (tallyAt (barCell c) () 3) ∗ cred (tallyAt ((c : Thread nD τ), .dma rV0) () N) ∗ cred (tallyAt ((c : Thread nD τ), .dma rV1) () N) ∗ cred (tallyAt ((c : Thread nD τ), .dma rV2) () N) ∗ levAts L lv)
    ∗ ((∃ f, rL0.view.loc (c : Thread nD τ) ↦[rL0.view.set]{fullShare} f) ∗ (∃ f, rL1.view.loc (c : Thread nD τ) ↦[rL1.view.set]{fullShare} f) ∗ (∃ f, rL2.view.loc (c : Thread nD τ) ↦[rL2.view.set]{fullShare} f))
    ∗ ((∃ f, lM.view.loc (c : Thread nD τ) ↦[lM.view.set]{fullShare} f) ∗ (∃ f, fM.view.loc (c : Thread nD τ) ↦[fM.view.set]{fullShare} f) ∗ (∃ f, oM.view.loc (c : Thread nD τ) ↦[oM.view.set]{fullShare} f))
    ∗ ((∃ f, wL0.view.loc (c : Thread nD τ) ↦[wL0.view.set]{fullShare} f) ∗ (∃ f, wL1.view.loc (c : Thread nD τ) ↦[wL1.view.set]{fullShare} f)
      ∗ (∃ f, wL2.view.loc (c : Thread nD τ) ↦[wL2.view.set]{fullShare} f) ∗ (∃ f, wL3.view.loc (c : Thread nD τ) ↦[wL3.view.set]{fullShare} f))
    ∗ (rowsPts m c 0 ∗ rowsPts m c 1 ∗ rowsPts m c 2 ∗ ((xSrc c).view.loc (c : Thread nD τ) ↦[(xSrc c).view.set]{Transfers.shareTokN fullShare.right 11} xv m c))
    ∗ ((wA.view.loc (c : Thread nD τ) ↦[wA.view.set]{Transfers.shareTokN fullShare.right 7} wv m c) ∗ (wA.view.loc (c : Thread nD τ) ↦[wA.view.set]{Transfers.shareTokN fullShare.right 8} wv m c)
      ∗ (wA.view.loc (c : Thread nD τ) ↦[wA.view.set]{Transfers.shareTokN fullShare.right 9} wv m c) ∗ (wA.view.loc (c : Thread nD τ) ↦[wA.view.set]{Transfers.shareTokN fullShare.right 10} wv m c))
    ∗ (semVal ((c : Thread nD τ), .dma cS0) 0 ∗ semVal ((c : Thread nD τ), .dma cS1) 0 ∗ semVal ((c : Thread nD τ), .dma cS2) 0 ∗ semVal ((c : Thread nD τ), .dma cS3) 0
      ∗ semVal ((c : Thread nD τ), .dma cc0_scratch7.sem) 0)
    ∗ owes (c : Thread nD τ) (tallyAt ((peer 2 c : Thread nD τ), .dma rV0) () N + tallyAt ((peer 1 c : Thread nD τ), .dma rV1) () N + tallyAt ((peer 0 c : Thread nD τ), .dma rV2) () N
        + tallyAt (barCell (peer 2 c)) () 1 + tallyAt (barCell (peer 1 c)) () 1 + tallyAt (barCell (peer 0 c)) () 1) W)

omit [FloatOps F] in
theorem owes_pad (c : Dev nD) (X : CellTallies nD τ sig Unit) (W : Waits sig Unit) :
    (owes (c : Thread nD τ) X W : sProp 𝕄) ⊢ owes (c : Thread nD τ) (0 + X) W := by rw [zero_add]

/-- What the body leaves on device `c`: every buffer, every counter at zero, and the stores `Ls` in the output's staging buffer. -/
abbrev bodyOut (Ls : List (View.Piece (Elt F) S1024x8192 .f32)) (c : Dev nD) : sProp 𝕄 := iprop(
    ((∃ f, rL0.view.loc (c : Thread nD τ) ↦[rL0.view.set]{fullShare} f) ∗ (∃ f, rL1.view.loc (c : Thread nD τ) ↦[rL1.view.set]{fullShare} f) ∗ (∃ f, rL2.view.loc (c : Thread nD τ) ↦[rL2.view.set]{fullShare} f))
    ∗ ((∃ f, lM.view.loc (c : Thread nD τ) ↦[lM.view.set]{fullShare} f) ∗ (∃ f, fM.view.loc (c : Thread nD τ) ↦[fM.view.set]{fullShare} f)
      ∗ (∃ f, oM.view.loc (c : Thread nD τ) ↦[oM.view.set]{fullShare} oM.view.writes (Elt F) f Ls))
    ∗ ((∃ f, wL0.view.loc (c : Thread nD τ) ↦[wL0.view.set]{fullShare} f) ∗ (∃ f, wL1.view.loc (c : Thread nD τ) ↦[wL1.view.set]{fullShare} f)
      ∗ (∃ f, wL2.view.loc (c : Thread nD τ) ↦[wL2.view.set]{fullShare} f) ∗ (∃ f, wL3.view.loc (c : Thread nD τ) ↦[wL3.view.set]{fullShare} f))
    ∗ (semVal ((c : Thread nD τ), .dma sS0) 0 ∗ semVal ((c : Thread nD τ), .dma sS1) 0 ∗ semVal ((c : Thread nD τ), .dma sS2) 0
      ∗ semVal ((c : Thread nD τ), .dma rV0) 0 ∗ semVal ((c : Thread nD τ), .dma rV1) 0 ∗ semVal ((c : Thread nD τ), .dma rV2) 0
      ∗ semVal ((c : Thread nD τ), .dma cS0) 0 ∗ semVal ((c : Thread nD τ), .dma cS1) 0 ∗ semVal ((c : Thread nD τ), .dma cS2) 0 ∗ semVal ((c : Thread nD τ), .dma cS3) 0
      ∗ semVal ((c : Thread nD τ), .dma cc0_scratch7.sem) 0)
    ∗ semVal (barCell c) 0
    ∗ ∃ W, owes (c : Thread nD τ) 0 W)

omit [FloatOps F] in
/-- A cell whose one round is over closes: its counter, at zero, is the core's again. -/
theorem close_cell (κ : ℕ) (g : GSem nD τ sig) : iprop(cellInv ER (rd m) κ g ∗ atPos ER g 1 ∅ 0) ⊢ |={Set.univ}=> (semVal g 0 : sProp 𝕄) :=
  Rounds.cell_close ER (rd m) (Set.mem_univ κ) (fun h => h) (R := 0 + 1) (duties_later m g)

set_option maxHeartbeats 2000000 in
/-- The body's run, and the stores it makes into the output's staging buffer. -/
def run (c : Dev nD) : { Ls : List (View.Piece (Elt F) S1024x8192 .f32) //
    ∀ (K : Dev nD × Fin 7 → ℕ) (W : Waits sig Unit) (Kt : PUnit → sProp 𝕄),
      iprop(bodyIn m K c W ∗ (bodyOut Ls c -∗ Kt ⟨⟩)) ⊢ wp frame (wpE (defs₀ (F := F)) 𝒱₀ c none) Set.univ
        (cc0_body xA (Memref.isWhole_whole _) wA (Memref.isWhole_whole _) oM (Memref.isWhole_whole _) rM (Memref.isWhole_whole _) lM (Memref.isWhole_whole _)
          fM (Memref.isWhole_whole _) wM (Memref.isWhole_whole _) cc0_scratch4 cc0_scratch5 cc0_scratch6 cc0_scratch7) Kt } := by
  refine ⟨?_, fun K W Kt => ?run⟩
  case run =>
    iintro ⟨⟨⟨#HIb, #HIb0, #HIb1, #HIb2, #HIs0, #HIs1, #HIs2, #HIr0, #HIr1, #HIr2, #HIp0, #HIp1, #HIp2⟩, ⟨#Hb0, #Hb1, #Hb2, #Hr0, #Hr1, #Hr2, #Hq0, #Hq1, #Hq2⟩,
      ⟨Ht0, Ht1, Ht2, Hts0, Hts1, Hts2, Htr0, Htr1, Htr2⟩, ⟨HaB, Ha0, Ha1, Ha2, Hd0, Hd1, Hd2⟩, ⟨HcB, Hc0, Hc1, Hc2, #Hlev⟩,
      ⟨⟨%f0, Hs0⟩, ⟨%f1, Hs1⟩, ⟨%f2, Hs2⟩⟩, ⟨⟨%fl, Hl⟩, ⟨%ff, Hf⟩, ⟨%fo, Ho⟩⟩, ⟨⟨%w0, Hw0⟩, ⟨%w1, Hw1⟩, ⟨%w2, Hw2⟩, ⟨%w3, Hw3⟩⟩, ⟨Hx0, Hx1, Hx2, Hx⟩,
      ⟨HW0, HW1, HW2, HW3⟩, ⟨Hz0, Hz1, Hz2, Hz3, Hz⟩, HO⟩, Hk⟩
    have hd1 := dev1_eq c
    have hd2 := dev2_eq c
    have hd3 := dev3_eq c
    have hd4 := dev4_eq c
    have hd5 := dev5_eq c
    have hd6 := dev6_eq c
    have hmw := mayWait_bar (F := F) c
    unfold O₃ at hmw
    rw [cc0_body_eq_skeleton]
    sl_exec_parts
    ihave Hp := (bar_pays m c) $$ HaB_pay1
    icases Hp with ⟨⟨%g0, Hg0⟩, #Hr0', ⟨%g1, Hg1⟩, #Hr1', ⟨%g2, Hg2⟩, #Hr2'⟩
    iapply (wp_send0 m c (peer 0 c) rfl (K (c, 1)) (K (peer 0 c, 6))) $$ [Hx0 Hg2 HO Hts0 Htr2]
    · isplitr; · iexact HIs0
      isplitr; · iexact HIp2
      isplitl [Hx0]; · iexact Hx0
      isplitl [Hg2]; · iexact Hg2
      isplitl [HO]; · iexact HO
      isplitl [Hts0]; · iexact Hts0
      isplitr; · iexact Hq0
      isplitl [Htr2]; · iexact Htr2
      iexact Hr2'
    iintro ⟨Hk0, HO⟩
    sl_exec_parts
    iapply (wp_send1 m c (peer 1 c) rfl (K (c, 2)) (K (peer 1 c, 5))) $$ [Hx1 Hg1 HO Hts1 Htr1]
    · isplitr; · iexact HIs1
      isplitr; · iexact HIp1
      isplitl [Hx1]; · iexact Hx1
      isplitl [Hg1]; · iexact Hg1
      isplitl [HO]; · iexact HO
      isplitl [Hts1]; · iexact Hts1
      isplitr; · iexact Hq1
      isplitl [Htr1]; · iexact Htr1
      iexact Hr1'
    iintro ⟨Hk1, HO⟩
    sl_exec_parts
    ihave HO := (owes_pad (F := F) c _ _) $$ HO
    iapply (wp_send2 m c (peer 2 c) rfl (K (c, 3)) (K (peer 2 c, 4))) $$ [Hx2 Hg0 HO Hts2 Htr0]
    · isplitr; · iexact HIs2
      isplitr; · iexact HIp0
      isplitl [Hx2]; · iexact Hx2
      isplitl [Hg0]; · iexact Hg0
      isplitl [HO]; · iexact HO
      isplitl [Hts2]; · iexact Hts2
      isplitr; · iexact Hq2
      isplitl [Htr0]; · iexact Htr0
      iexact Hr0'
    iintro ⟨Hk2, HO⟩
    sl_exec_parts
    imod (close_cell m _ _) $$ [HaB] with Hzb
    · isplitr; · iexact HIb
      iexact HaB
    imod (close_cell m _ _) $$ [Hd0] with Hzs0
    · isplitr; · iexact HIs0
      iexact Hd0
    imod (close_cell m _ _) $$ [Hd1] with Hzs1
    · isplitr; · iexact HIs1
      iexact Hd1
    imod (close_cell m _ _) $$ [Hd2] with Hzs2
    · isplitr; · iexact HIs2
      iexact Hd2
    imod (close_cell m _ _) $$ [Ha0] with Hzr0
    · isplitr; · iexact HIr0
      iexact Ha0
    imod (close_cell m _ _) $$ [Ha1] with Hzr1
    · isplitr; · iexact HIr1
      iexact Ha1
    imod (close_cell m _ _) $$ [Ha2] with Hzr2
    · isplitr; · iexact HIr2
      iexact Ha2
    sl_step
    iapply Hk
    isplitl [Ha0_pay1 Ha1_pay1 Ha2_pay1]
    · isplitl [Ha0_pay1]; · iexists _; iexact Ha0_pay1
      isplitl [Ha1_pay1]; · iexists _; iexact Ha1_pay1
      iexists _; iexact Ha2_pay1
    isplitl [Hl Hf Ho]
    · isplitl [Hl]; · iexists _; iexact Hl
      isplitl [Hf]; · iexists _; iexact Hf
      iexists _; iexact Ho
    isplitl [Hw0 Hw1 Hw2 Hw3]
    · isplitl [Hw0]; · iexists _; iexact Hw0
      isplitl [Hw1]; · iexists _; iexact Hw1
      isplitl [Hw2]; · iexists _; iexact Hw2
      iexists _; iexact Hw3
    isplitl [Hzs0 Hzs1 Hzs2 Hzr0 Hzr1 Hzr2 Hz0 Hz1 Hz2 Hz3 Hz]
    · isplitl [Hzs0]; · iexact Hzs0
      isplitl [Hzs1]; · iexact Hzs1
      isplitl [Hzs2]; · iexact Hzs2
      isplitl [Hzr0]; · iexact Hzr0
      isplitl [Hzr1]; · iexact Hzr1
      isplitl [Hzr2]; · iexact Hzr2
      isplitl [Hz0]; · iexact Hz0
      isplitl [Hz1]; · iexact Hz1
      isplitl [Hz2]; · iexact Hz2
      isplitl [Hz3]; · iexact Hz3
      iexact Hz
    isplitl [Hzb]; · iexact Hzb
    iexists _; iexact HO

end Cert.KernelIdealProof

end
-- ==== Proof.KernelIdeal.Obligation.lean ====
/-
# The body obligation of the kernel's one grid point

The buffers split into the parts that the body's transfers hand over, and put back after it.
-/
module

public import proofs.«01_k».proof.Proof.KernelIdeal.Body
public import Idealize.ShloMosaic.Lib.Ring

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]
local notation "𝕄" => MT nD τ sig Unit (Elt F) ℕ UU ℕ
variable (m : (ℓ : Loc nD τ sig) → Buf (Elt F) ℓ) (ρ : Dev nD → PrngReg)

/-! ## Buffers split and put back -/

section Split
variable {ℓ : Loc nD τ sig} {I S : Finset (Idx ℓ)}

omit [FloatOps F] in
/-- Part of a buffer taken out, -/
theorem part_out (h : I ⊆ S) : (iprop(∃ f, ℓ ↦[S]{fullShare} f) : sProp 𝕄)
    ⊢ iprop((∃ f, ℓ ↦[I]{fullShare} f) ∗ (∃ f, ℓ ↦[S \ I]{fullShare} f)) := by
  iintro ⟨%f, H⟩
  ihave H' := (pointsTo_split_subset h).1 $$ H
  icases H' with ⟨H1, H2⟩
  isplitl [H1]
  · iexists _; iexact H1
  · iexists _; iexact H2

omit [FloatOps F] in
/-- and put back. -/
theorem part_in (h : I ⊆ S) : (iprop((∃ f, ℓ ↦[I]{fullShare} f) ∗ (∃ f, ℓ ↦[S \ I]{fullShare} f)) : sProp 𝕄)
    ⊢ iprop(∃ f, ℓ ↦[S]{fullShare} f) := by
  iintro ⟨⟨%f, H1⟩, ⟨%g, H2⟩⟩
  iexists _
  iapply (pointsTo_join_subset h)
  isplitl [H1]
  · iexact H1
  · iexact H2

end Split

omit [FloatOps F] in
/-- An element of slot `k` of the receive buffer has first coordinate `k`. -/
theorem mem_slot3 {off : Fin 3 → ℕ} {h : ∀ i, off i + S1x1024x1024.size i ≤ S3x1024x1024.size i} {i : S3x1024x1024.Idx}
    (hi : i ∈ ((rM.slice (Rect.unit (s := S3x1024x1024) off S1x1024x1024.size h) (fun _ => rfl)).squeeze S1024x1024 squeezes_S1x1024x1024_S1024x1024).view.set) :
    (i 0).val = off 0 := by
  have e : (((rM.slice (Rect.unit (s := S3x1024x1024) off S1x1024x1024.size h) (fun _ => rfl)).squeeze S1024x1024 squeezes_S1x1024x1024_S1024x1024).view.set : Finset S3x1024x1024.Idx)
      = (Rect.unit (s := S3x1024x1024) off S1x1024x1024.size h).set :=
    (View.set_reshape _ _).trans (View.set_slice_whole _ _)
  obtain ⟨j, hj, h0⟩ := (Rect.unit (s := S3x1024x1024) off S1x1024x1024.size h).mem_set.mp (e ▸ hi) 0
  have h1 : j < 1 := hj
  rw [h0]
  show off 0 + 1 * j = off 0
  omega

omit [FloatOps F] in
/-- And of slot `k` of the slots of `w`. -/
theorem mem_slot4 {off : Fin 3 → ℕ} {h : ∀ i, off i + S1x1024x1024.size i ≤ S4x1024x1024.size i} {i : S4x1024x1024.Idx}
    (hi : i ∈ ((wM.slice (Rect.unit (s := S4x1024x1024) off S1x1024x1024.size h) (fun _ => rfl)).squeeze S1024x1024 squeezes_S1x1024x1024_S1024x1024).view.set) :
    (i 0).val = off 0 := by
  have e : (((wM.slice (Rect.unit (s := S4x1024x1024) off S1x1024x1024.size h) (fun _ => rfl)).squeeze S1024x1024 squeezes_S1x1024x1024_S1024x1024).view.set : Finset S4x1024x1024.Idx)
      = (Rect.unit (s := S4x1024x1024) off S1x1024x1024.size h).set :=
    (View.set_reshape _ _).trans (View.set_slice_whole _ _)
  obtain ⟨j, hj, h0⟩ := (Rect.unit (s := S4x1024x1024) off S1x1024x1024.size h).mem_set.mp (e ▸ hi) 0
  have h1 : j < 1 := hj
  rw [h0]
  show off 0 + 1 * j = off 0
  omega

abbrev R0 : Finset S3x1024x1024.Idx := rL0.view.set
abbrev R1 : Finset S3x1024x1024.Idx := rL1.view.set
abbrev R2 : Finset S3x1024x1024.Idx := rL2.view.set
abbrev W0 : Finset S4x1024x1024.Idx := wL0.view.set
abbrev W1 : Finset S4x1024x1024.Idx := wL1.view.set
abbrev W2 : Finset S4x1024x1024.Idx := wL2.view.set
abbrev W3 : Finset S4x1024x1024.Idx := wL3.view.set

theorem sub_R1 : R1 ⊆ Finset.univ \ R0 := fun i hi => Finset.mem_sdiff.mpr ⟨Finset.mem_univ _, fun h => by
  have a := mem_slot3 hi; have b := mem_slot3 h; rw [a] at b; exact absurd b (by decide)⟩
theorem sub_R2 : R2 ⊆ (Finset.univ \ R0) \ R1 := fun i hi => Finset.mem_sdiff.mpr ⟨Finset.mem_sdiff.mpr ⟨Finset.mem_univ _, fun h => by
  have a := mem_slot3 hi; have b := mem_slot3 h; rw [a] at b; exact absurd b (by decide)⟩, fun h => by
  have a := mem_slot3 hi; have b := mem_slot3 h; rw [a] at b; exact absurd b (by decide)⟩
theorem sub_W1 : W1 ⊆ Finset.univ \ W0 := fun i hi => Finset.mem_sdiff.mpr ⟨Finset.mem_univ _, fun h => by
  have a := mem_slot4 hi; have b := mem_slot4 h; rw [a] at b; exact absurd b (by decide)⟩
theorem sub_W2 : W2 ⊆ (Finset.univ \ W0) \ W1 := fun i hi => Finset.mem_sdiff.mpr ⟨Finset.mem_sdiff.mpr ⟨Finset.mem_univ _, fun h => by
  have a := mem_slot4 hi; have b := mem_slot4 h; rw [a] at b; exact absurd b (by decide)⟩, fun h => by
  have a := mem_slot4 hi; have b := mem_slot4 h; rw [a] at b; exact absurd b (by decide)⟩
theorem sub_W3 : W3 ⊆ ((Finset.univ \ W0) \ W1) \ W2 := fun i hi => Finset.mem_sdiff.mpr ⟨Finset.mem_sdiff.mpr ⟨Finset.mem_sdiff.mpr ⟨Finset.mem_univ _, fun h => by
  have a := mem_slot4 hi; have b := mem_slot4 h; rw [a] at b; exact absurd b (by decide)⟩, fun h => by
  have a := mem_slot4 hi; have b := mem_slot4 h; rw [a] at b; exact absurd b (by decide)⟩, fun h => by
  have a := mem_slot4 hi; have b := mem_slot4 h; rw [a] at b; exact absurd b (by decide)⟩

/-! ## The pipeline's proof data -/

/-- What the output's staging buffer holds after the body: its stores, over anything. -/
def outc (c : Dev nD) : S1024x8192.Idx → Elt F .f32 :=
  oM.view.read (Elt F) (oM.view.writes (Elt F) (m ((c : Thread nD τ).loc cc0_stg0_0)) (run m c).1)

theorem run_covers (c : Dev nD) : ∀ y : S1024x8192.Idx, ∃ p ∈ (run m c).1, y ∈ p.1.set :=
  View.cover_of_tiledL (run m c).1 S1024x1024.size (by sl_kernel_rfl)

/-- The stores cover the buffer, so what it held before does not matter. -/
theorem read_out (c : Dev nD) (f : Buf (Elt F) ((c : Thread nD τ).loc cc0_stg0_0)) :
    oM.view.writes (Elt F) f (run m c).1 = outc m c :=
  (View.read_whole (Val := Elt F) cc0_stg0_0 _).symm.trans (View.read_writes_of_cover _ _ _ _ _ (run_covers m c))

attribute [irreducible] outc

/-- The ring's ghost state device `c` starts from, the cells' invariants at the names `K`. -/
def ghost (K : Dev nD × Fin 7 → ℕ) (c : Dev nD) : sProp 𝕄 := iprop(
    (cellInv ER (rd m) (K (c, 0)) (barCell c)
      ∗ cellInv ER (rd m) (K (peer 0 c, 0)) (barCell (peer 0 c)) ∗ cellInv ER (rd m) (K (peer 1 c, 0)) (barCell (peer 1 c)) ∗ cellInv ER (rd m) (K (peer 2 c, 0)) (barCell (peer 2 c))
      ∗ cellInv ER (rd m) (K (c, 1)) ((c : Thread nD τ), .dma sS0) ∗ cellInv ER (rd m) (K (c, 2)) ((c : Thread nD τ), .dma sS1) ∗ cellInv ER (rd m) (K (c, 3)) ((c : Thread nD τ), .dma sS2)
      ∗ cellInv ER (rd m) (K (c, 4)) ((c : Thread nD τ), .dma rV0) ∗ cellInv ER (rd m) (K (c, 5)) ((c : Thread nD τ), .dma rV1) ∗ cellInv ER (rd m) (K (c, 6)) ((c : Thread nD τ), .dma rV2)
      ∗ cellInv ER (rd m) (K (peer 2 c, 4)) ((peer 2 c : Thread nD τ), .dma rV0) ∗ cellInv ER (rd m) (K (peer 1 c, 5)) ((peer 1 c : Thread nD τ), .dma rV1) ∗ cellInv ER (rd m) (K (peer 0 c, 6)) ((peer 0 c : Thread nD τ), .dma rV2))
    ∗ (reached ER (barCell (peer 0 c)) 0 ∗ reached ER (barCell (peer 1 c)) 0 ∗ reached ER (barCell (peer 2 c)) 0
      ∗ reached ER ((c : Thread nD τ), .dma rV0) 0 ∗ reached ER ((c : Thread nD τ), .dma rV1) 0 ∗ reached ER ((c : Thread nD τ), .dma rV2) 0
      ∗ reached ER ((c : Thread nD τ), .dma sS0) 0 ∗ reached ER ((c : Thread nD τ), .dma sS1) 0 ∗ reached ER ((c : Thread nD τ), .dma sS2) 0)
    ∗ (dutyTok ER (barCell (peer 0 c)) 0 0 ∗ dutyTok ER (barCell (peer 1 c)) 0 1 ∗ dutyTok ER (barCell (peer 2 c)) 0 2
      ∗ dutyTok ER ((c : Thread nD τ), .dma sS0) 0 0 ∗ dutyTok ER ((c : Thread nD τ), .dma sS1) 0 0 ∗ dutyTok ER ((c : Thread nD τ), .dma sS2) 0 0
      ∗ dutyTok ER ((peer 2 c : Thread nD τ), .dma rV0) 0 0 ∗ dutyTok ER ((peer 1 c : Thread nD τ), .dma rV1) 0 0 ∗ dutyTok ER ((peer 0 c : Thread nD τ), .dma rV2) 0 0)
    ∗ (atPos ER (barCell c) 0 ∅ 0 ∗ atPos ER ((c : Thread nD τ), .dma rV0) 0 ∅ 0 ∗ atPos ER ((c : Thread nD τ), .dma rV1) 0 ∅ 0 ∗ atPos ER ((c : Thread nD τ), .dma rV2) 0 ∅ 0
      ∗ atPos ER ((c : Thread nD τ), .dma sS0) 0 ∅ 0 ∗ atPos ER ((c : Thread nD τ), .dma sS1) 0 ∅ 0 ∗ atPos ER ((c : Thread nD τ), .dma sS2) 0 ∅ 0))

/-- The credit its waits for other devices spend, and the level facts. -/
def credits (c : Dev nD) : sProp 𝕄 := iprop(cred (tallyAt (barCell c) () 3) ∗ cred (tallyAt ((c : Thread nD τ), .dma rV0) () N) ∗ cred (tallyAt ((c : Thread nD τ), .dma rV1) () N) ∗ cred (tallyAt ((c : Thread nD τ), .dma rV2) () N) ∗ levAts L lv)

/-- The shares of the arguments that the body's transfers read. -/
def shares (c : Dev nD) : sProp 𝕄 := iprop(
    (rowsPts m c 0 ∗ rowsPts m c 1 ∗ rowsPts m c 2 ∗ ((xSrc c).view.loc (c : Thread nD τ) ↦[(xSrc c).view.set]{Transfers.shareTokN fullShare.right 11} xv m c))
    ∗ ((wA.view.loc (c : Thread nD τ) ↦[wA.view.set]{Transfers.shareTokN fullShare.right 7} wv m c) ∗ (wA.view.loc (c : Thread nD τ) ↦[wA.view.set]{Transfers.shareTokN fullShare.right 8} wv m c)
      ∗ (wA.view.loc (c : Thread nD τ) ↦[wA.view.set]{Transfers.shareTokN fullShare.right 9} wv m c) ∗ (wA.view.loc (c : Thread nD τ) ↦[wA.view.set]{Transfers.shareTokN fullShare.right 10} wv m c)))

def start (c : Dev nD) : sProp 𝕄 := iprop((∃ K, ghost m K c) ∗ credits c ∗ shares m c)

/-- The kernel's own buffers, each at some contents. -/
def bufs (c : Dev nD) : sProp 𝕄 := iprop(
    (∃ f : Buf (Elt F) ((c : Thread nD τ).loc cc0_scratch0), (((c : Thread nD τ).loc cc0_scratch0) ↦{fullShare} f))
    ∗ (∃ f : Buf (Elt F) ((c : Thread nD τ).loc cc0_scratch1), (((c : Thread nD τ).loc cc0_scratch1) ↦{fullShare} f))
    ∗ (∃ f : Buf (Elt F) ((c : Thread nD τ).loc cc0_scratch2), (((c : Thread nD τ).loc cc0_scratch2) ↦{fullShare} f))
    ∗ (∃ f : Buf (Elt F) ((c : Thread nD τ).loc cc0_scratch3), (((c : Thread nD τ).loc cc0_scratch3) ↦{fullShare} f)))

/-- The counters of the local copies' semaphores. -/
def copySems (c : Dev nD) : sProp 𝕄 := iprop(
    semVal ((c : Thread nD τ), .dma cS0) 0 ∗ semVal ((c : Thread nD τ), .dma cS1) 0 ∗ semVal ((c : Thread nD τ), .dma cS2) 0 ∗ semVal ((c : Thread nD τ), .dma cS3) 0
      ∗ semVal ((c : Thread nD τ), .dma cc0_scratch7.sem) 0)
/-- The counters of the ring's own semaphores. -/
def ringSems (c : Dev nD) : sProp 𝕄 := iprop(
    semVal ((c : Thread nD τ), .dma sS0) 0 ∗ semVal ((c : Thread nD τ), .dma sS1) 0 ∗ semVal ((c : Thread nD τ), .dma sS2) 0
      ∗ semVal ((c : Thread nD τ), .dma rV0) 0 ∗ semVal ((c : Thread nD τ), .dma rV1) 0 ∗ semVal ((c : Thread nD τ), .dma rV2) 0)

def Φ₀ (c : Dev nD) : sProp 𝕄 := iprop(start m c ∗ copySems c ∗ bufs c)
def Φ₁ (c : Dev nD) : sProp 𝕄 := iprop(bufs c ∗ (ringSems c ∗ copySems c) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outc m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPost (c : Dev nD) : sProp 𝕄 := iprop(Φ₁ c ∗ (dats m ρ 0 c).owesAt () t0_0.succ ∗ stg c cc0_stg0_0 (outc m c))
def bodyPre (c : Dev nD) : sProp 𝕄 := iprop(Φ₀ m c ∗ (dats m ρ 0 c).owesAt () t0_0.castSucc
    ∗ (∃ d, stg c cc0_stg0_0 ((dats m ρ 0 c).before (0 : Fin 1) t0_0 d)))

omit [FloatOps F] in
theorem whole_pts (c : Dev nD) (b : Ref sig .tc) (f : Buf (Elt F) ((c : Thread nD τ).loc b)) :
    ((Memref.whole b).view.loc (c : Thread nD τ) ↦[(Memref.whole b).view.set]{fullShare} f : sProp 𝕄) = (((c : Thread nD τ).loc b) ↦{fullShare} f) := by
  simp only [Memref.view_whole, View.set_whole]
omit [FloatOps F] in
theorem whole_ex (c : Dev nD) (b : Ref sig .tc) :
    (iprop(∃ f, (Memref.whole b).view.loc (c : Thread nD τ) ↦[(Memref.whole b).view.set]{fullShare} f) : sProp 𝕄)
      ⊢ iprop(∃ f : Buf (Elt F) ((c : Thread nD τ).loc b), (((c : Thread nD τ).loc b) ↦{fullShare} f)) := by
  iintro ⟨%f, H⟩
  ihave H := (Entails.of_eq (whole_pts c b f)) $$ H
  iexists f; iexact H
omit [FloatOps F] in
theorem set_lM : lM.view.set = Finset.univ := View.set_whole _
omit [FloatOps F] in
theorem set_fM : fM.view.set = Finset.univ := View.set_whole _
omit [FloatOps F] in
theorem set_oM : oM.view.set = Finset.univ := View.set_whole _

theorem sound_body (c : Dev nD) :
    bodyPre m ρ c ⊢ wp frame (wpE (defs₀ (F := F)) 𝒱₀ c none) Set.univ
        (cc0_body xA (Memref.isWhole_whole _) wA (Memref.isWhole_whole _) oM (Memref.isWhole_whole _) rM (Memref.isWhole_whole _) lM (Memref.isWhole_whole _)
          fM (Memref.isWhole_whole _) wM (Memref.isWhole_whole _) cc0_scratch4 cc0_scratch5 cc0_scratch6 cc0_scratch7) (fun _ => bodyPost m ρ c) := by
  unfold bodyPre Φ₀ start ghost credits shares bufs copySems
  iintro ⟨⟨⟨⟨%K, Hi, Hr, Ht, Ha⟩, Hc, Hx, HW⟩, Hz, Hs0, Hs1, Hs2, Hs3⟩, Ho, ⟨%d, %g, %hg, Hout⟩⟩
  unfold Dat.owesAt Pipeline.owesWithin
  icases Ho with ⟨%W, %hW, HO⟩
  ihave H0 := (part_out (F := F) (ℓ := (c : Thread nD τ).loc cc0_scratch0) (Finset.subset_univ R0)) $$ Hs0
  icases H0 with ⟨HR0, H0⟩
  ihave H0 := (part_out (F := F) (ℓ := (c : Thread nD τ).loc cc0_scratch0) sub_R1) $$ H0
  icases H0 with ⟨HR1, H0⟩
  ihave H0 := (part_out (F := F) (ℓ := (c : Thread nD τ).loc cc0_scratch0) sub_R2) $$ H0
  icases H0 with ⟨HR2, HR⟩
  ihave H0 := (part_out (F := F) (ℓ := (c : Thread nD τ).loc cc0_scratch3) (Finset.subset_univ W0)) $$ Hs3
  icases H0 with ⟨HW0, H0⟩
  ihave H0 := (part_out (F := F) (ℓ := (c : Thread nD τ).loc cc0_scratch3) sub_W1) $$ H0
  icases H0 with ⟨HW1, H0⟩
  ihave H0 := (part_out (F := F) (ℓ := (c : Thread nD τ).loc cc0_scratch3) sub_W2) $$ H0
  icases H0 with ⟨HW2, H0⟩
  ihave H0 := (part_out (F := F) (ℓ := (c : Thread nD τ).loc cc0_scratch3) sub_W3) $$ H0
  icases H0 with ⟨HW3, HWr⟩
  iapply ((run m c).2 K W (fun _ => bodyPost m ρ c))
  isplitl [Hi Hr Ht Ha Hc Hx HW Hz Hs1 Hs2 HR0 HR1 HR2 HW0 HW1 HW2 HW3 HO Hout]
  · isplitl [Hi]; · iexact Hi
    isplitl [Hr]; · iexact Hr
    isplitl [Ht]; · iexact Ht
    isplitl [Ha]; · iexact Ha
    isplitl [Hc]; · iexact Hc
    isplitl [HR0 HR1 HR2]
    · isplitl [HR0]; · iexact HR0
      isplitl [HR1]; · iexact HR1
      iexact HR2
    isplitl [Hs1 Hs2 Hout]
    · rw [set_lM, set_fM, set_oM]
      isplitl [Hs1]; · iexact Hs1
      isplitl [Hs2]; · iexact Hs2
      iexists g; iexact Hout
    isplitl [HW0 HW1 HW2 HW3]
    · isplitl [HW0]; · iexact HW0
      isplitl [HW1]; · iexact HW1
      isplitl [HW2]; · iexact HW2
      iexact HW3
    isplitl [Hx]; · iexact Hx
    isplitl [HW]; · iexact HW
    isplitl [Hz]; · iexact Hz
    iexact HO
  iintro ⟨⟨HR0, HR1, HR2⟩, ⟨Hs1, Hs2, ⟨%fo, Hout⟩⟩, ⟨HW0, HW1, HW2, HW3⟩, ⟨Hy0, Hy1, Hy2, Hy3, Hy4, Hy5, Hz⟩, Hb, ⟨%W', HO⟩⟩
  unfold bodyPost Φ₁ bufs ringSems copySems
  ihave Hs1 := (whole_ex (F := F) c cc0_scratch1) $$ Hs1
  ihave Hs2 := (whole_ex (F := F) c cc0_scratch2) $$ Hs2
  ihave Hout := (Entails.of_eq (whole_pts (F := F) c cc0_stg0_0 _)) $$ Hout
  ihave H0 := (part_in (F := F) (ℓ := (c : Thread nD τ).loc cc0_scratch0) sub_R2) $$ [HR2 HR]
  · isplitl [HR2]; · iexact HR2
    iexact HR
  ihave H0 := (part_in (F := F) (ℓ := (c : Thread nD τ).loc cc0_scratch0) sub_R1) $$ [HR1 H0]
  · isplitl [HR1]; · iexact HR1
    iexact H0
  ihave H0 := (part_in (F := F) (ℓ := (c : Thread nD τ).loc cc0_scratch0) (Finset.subset_univ R0)) $$ [HR0 H0]
  · isplitl [HR0]; · iexact HR0
    iexact H0
  ihave H3 := (part_in (F := F) (ℓ := (c : Thread nD τ).loc cc0_scratch3) sub_W3) $$ [HW3 HWr]
  · isplitl [HW3]; · iexact HW3
    iexact HWr
  ihave H3 := (part_in (F := F) (ℓ := (c : Thread nD τ).loc cc0_scratch3) sub_W2) $$ [HW2 H3]
  · isplitl [HW2]; · iexact HW2
    iexact H3
  ihave H3 := (part_in (F := F) (ℓ := (c : Thread nD τ).loc cc0_scratch3) sub_W1) $$ [HW1 H3]
  · isplitl [HW1]; · iexact HW1
    iexact H3
  ihave H3 := (part_in (F := F) (ℓ := (c : Thread nD τ).loc cc0_scratch3) (Finset.subset_univ W0)) $$ [HW0 H3]
  · isplitl [HW0]; · iexact HW0
    iexact H3
  isplitl [H0 Hs1 Hs2 H3 Hy0 Hy1 Hy2 Hy3 Hy4 Hy5 Hz Hb]
  · isplitl [H0 Hs1 Hs2 H3]
    · isplitl [H0]; · iexact H0
      isplitl [Hs1]; · iexact Hs1
      isplitl [Hs2]; · iexact Hs2
      iexact H3
    isplitl [Hy0 Hy1 Hy2 Hy3 Hy4 Hy5 Hz]
    · isplitl [Hy0 Hy1 Hy2 Hy3 Hy4 Hy5]
      · isplitl [Hy0]; · iexact Hy0
        isplitl [Hy1]; · iexact Hy1
        isplitl [Hy2]; · iexact Hy2
        isplitl [Hy3]; · iexact Hy3
        isplitl [Hy4]; · iexact Hy4
        iexact Hy5
      iexact Hz
    iexact Hb
  unfold Dat.owesAt Pipeline.owesWithin
  isplitl [HO]
  · iexists W'
    isplitr; · ipureintro; exact fun _ _ => Or.inl trivial
    iexact HO
  iexists _
  isplitr
  · ipureintro; exact read_out m c fo
  iexact Hout

/-- The library's body obligation on core `c`. -/
theorem body_obligation (c : Dev nD) : BodyObligation (dats (F := F) m ρ 0 c) (defs₀ (F := F)) 𝒱₀ () Set.univ := fun t => by
  rw [show t = t0_0 from fin_N0 t]
  rw [bigSep_W0, bigSep_W0]
  simp only [owns_whole_eq]
  show bodyPre m ρ c ⊢ wp frame (wpE (defs₀ (F := F)) 𝒱₀ c none) Set.univ
    (cc0_body xA (Memref.isWhole_whole _) wA (Memref.isWhole_whole _) oM (Memref.isWhole_whole _) rM (Memref.isWhole_whole _) lM (Memref.isWhole_whole _)
      fM (Memref.isWhole_whole _) wM (Memref.isWhole_whole _) cc0_scratch4 cc0_scratch5 cc0_scratch6 cc0_scratch7) (fun _ => bodyPost m ρ c)
  exact sound_body m ρ c

end Cert.KernelIdealProof

end
-- ==== Proof.KernelIdeal.Launch.lean ====
/-
# The launch

The ring's ghost state dealt to the four devices, and the run of the program: it ends, every counter is zero, both arguments are as they were and the result holds what the body stored.
-/
module

public import proofs.«01_k».proof.Proof.KernelIdeal.Obligation
public import Idealize.ShloMosaic.Lib.Pipeline.CollectiveSegs

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]
local notation "𝕄" => MT nD τ sig Unit (Elt F) ℕ UU ℕ
variable (m : (ℓ : Loc nD τ sig) → Buf (Elt F) ℓ) (ρ : Dev nD → PrngReg)

/-- The kernel's own semaphores, and the cells of the ring on each device. -/
abbrev osem : Fin 11 → SemLoc sig := fun
  | 0 => .dma sS0 | 1 => .dma sS1 | 2 => .dma sS2 | 3 => .dma rV0 | 4 => .dma rV1 | 5 => .dma rV2
  | 6 => .dma cS0 | 7 => .dma cS1 | 8 => .dma cS2 | 9 => .dma cS3 | 10 => .dma cc0_scratch7.sem
abbrev csem : Fin 7 → SemLoc sig := fun
  | 0 => .reg barS | 1 => .dma sS0 | 2 => .dma sS1 | 3 => .dma sS2 | 4 => .dma rV0 | 5 => .dma rV1 | 6 => .dma rV2
abbrev kcell (ck : Dev nD × Fin 7) : GSem nD τ sig := ((ck.1 : Thread nD τ), csem ck.2)

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide
theorem kcell_injective : Function.Injective (kcell : Dev nD × Fin 7 → GSem nD τ sig) := by
  rintro ⟨c, k⟩ ⟨c', k'⟩ h
  have h1 : c = c' := congrArg (fun g : GSem nD τ sig => g.1.1) h
  have h2 : k = k' := csem_injective (congrArg Prod.snd h)
  rw [h1, h2]
def ringCells : Finset (GSem nD τ sig) := Finset.univ.map ⟨kcell, kcell_injective⟩

/-- The duties of a device's own cells: the barrier's three, one of each other cell. -/
abbrev dutyCell : Fin 9 → Fin 7 := fun | 0 => 0 | 1 => 0 | 2 => 0 | 3 => 1 | 4 => 2 | 5 => 3 | 6 => 4 | 7 => 5 | 8 => 6
abbrev dutyNo : Fin 9 → Fin 3 := fun | 0 => 0 | 1 => 1 | 2 => 2 | 3 => 0 | 4 => 0 | 5 => 0 | 6 => 0 | 7 => 0 | 8 => 0
theorem duty_injective : Function.Injective fun j => (dutyCell j, dutyNo j) := by decide
abbrev tokOf (cj : Dev nD × Fin 9) : GSem nD τ sig × ℕ × Fin 3 := (kcell (cj.1, dutyCell cj.2), 0, dutyNo cj.2)
theorem tokOf_injective : Function.Injective (tokOf : Dev nD × Fin 9 → GSem nD τ sig × ℕ × Fin 3) := by
  rintro ⟨c, j⟩ ⟨c', j'⟩ h
  have h1 := kcell_injective (congrArg Prod.fst h)
  have h2 : dutyNo j = dutyNo j' := congrArg (fun x : GSem nD τ sig × ℕ × Fin 3 => x.2.2) h
  have h3 : j = j' := duty_injective (Prod.ext (congrArg Prod.snd h1) h2)
  have h4 : c = c' := congrArg Prod.fst h1
  rw [h3, h4]
def ringToks : Finset (GSem nD τ sig × ℕ × Fin 3) := Finset.univ.map ⟨tokOf, tokOf_injective⟩

def u₀ : UU :=
  (initOf (Pipeline.cells cfgs cellOf_inj) (Pipeline.launchToks cfgs cellOf_inj), (initOf ringCells ringToks, 1))

/-- The duty tokens of device `c`'s own cells. -/
def toks (c : Dev nD) : sProp 𝕄 := iprop(
    (dutyTok ER (barCell c) 0 0 ∗ dutyTok ER (barCell c) 0 1 ∗ dutyTok ER (barCell c) 0 2)
    ∗ (dutyTok ER ((c : Thread nD τ), .dma sS0) 0 0 ∗ dutyTok ER ((c : Thread nD τ), .dma sS1) 0 0 ∗ dutyTok ER ((c : Thread nD τ), .dma sS2) 0 0)
    ∗ (dutyTok ER ((c : Thread nD τ), .dma rV0) 0 0 ∗ dutyTok ER ((c : Thread nD τ), .dma rV1) 0 0 ∗ dutyTok ER ((c : Thread nD τ), .dma rV2) 0 0))

/-- What the launch element deals device `c`. -/
def G (c : Dev nD) : sProp 𝕄 :=
  iprop((bigSep Finset.univ fun k : Fin 7 => roundState ER (rd m) (kcell (c, k)) 0)
    ∗ (bigSep Finset.univ fun k : Fin 7 => iprop(atPos ER (kcell (c, k)) 0 ∅ 0 ∗ reached ER (kcell (c, k)) 0)) ∗ toks c)

/-- What the global step makes of it and the semaphores. -/
def G' (c : Dev nD) : sProp 𝕄 := iprop((∃ K, ghost m K c) ∗ copySems c)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

omit [FloatOps F] in
theorem toks_of (c : Dev nD) : (bigSep Finset.univ fun j : Fin 9 => (dutyTok ER (tokOf (c, j)).1 (tokOf (c, j)).2.1 (tokOf (c, j)).2.2 : sProp 𝕄)) ⊢ toks c := by
  unfold toks
  rw [bigSep_fin9]
  iintro ⟨H0, H1, H2, H3, H4, H5, H6, H7, H8⟩
  isplitl [H0 H1 H2]
  · isplitl [H0]; · iexact H0
    isplitl [H1]; · iexact H1
    iexact H2
  isplitl [H3 H4 H5]
  · isplitl [H3]; · iexact H3
    isplitl [H4]; · iexact H4
    iexact H5
  isplitl [H6]; · iexact H6
  isplitl [H7]; · iexact H7
  iexact H8

omit [FloatOps F] in
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 7 => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => toks c := by
    unfold ringToks; rw [bigSep_map, bigSep_univ_prod]
    exact bigSep_mono fun c _ => toks_of c
  iintro HX
  imod (Rounds.fund ER (rd m) ringCells ringToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop(semVal ((c : Thread nD τ), .dma sS0) 0 ∗ semVal ((c : Thread nD τ), .dma sS1) 0 ∗ semVal ((c : Thread nD τ), .dma sS2) 0
      ∗ semVal ((c : Thread nD τ), .dma rV0) 0 ∗ semVal ((c : Thread nD τ), .dma rV1) 0 ∗ semVal ((c : Thread nD τ), .dma rV2) 0
      ∗ semVal ((c : Thread nD τ), .dma cS0) 0 ∗ semVal ((c : Thread nD τ), .dma cS1) 0 ∗ semVal ((c : Thread nD τ), .dma cS2) 0 ∗ semVal ((c : Thread nD τ), .dma cS3) 0
      ∗ semVal ((c : Thread nD τ), .dma cc0_scratch7.sem) 0) := by
  rw [Pipeline.ownSems0_eq_of_list c osem [0, 1, 2, 3, 4, 5, 6, 7, 8, 9, 10] (by decide) (by decide)]; rfl
omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_split (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 7 => semVal (kcell (c, k)) 0) ∗ copySems c) : sProp 𝕄) := by
  rw [ownSems0_eq, unscopedSems0_eq, bigSep_fin7]
  unfold copySems
  iintro ⟨⟨H1, H2, H3, H4, H5, H6, Hc⟩, HB⟩
  isplitr [Hc]
  · isplitl [HB]; · iexact HB
    isplitl [H1]; · iexact H1
    isplitl [H2]; · iexact H2
    isplitl [H3]; · iexact H3
    isplitl [H4]; · iexact H4
    isplitl [H5]; · iexact H5
    iexact H6
  iexact Hc

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c ∗ copySems c) := by
  unfold G
  iintro ⟨Hos, Hus, Hst, Hat, Htok⟩
  ihave Hv := (sems0_split (F := F) c) $$ [Hos Hus]
  · isplitl [Hos] <;> iassumption
  icases Hv with ⟨Hv, Hc⟩
  imod (show iprop((bigSep Finset.univ fun k : Fin 7 => semVal (kcell (c, k)) 0) ∗ bigSep Finset.univ fun k : Fin 7 => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hc

def records (K : Dev nD × Fin 7 → ℕ) : sProp 𝕄 :=
  iprop((bigSep Finset.univ fun ck : Dev nD × Fin 7 => cellInv ER (rd m) (K ck) (kcell ck))
    ∗ bigSep Finset.univ fun ck : Dev nD × Fin 7 => reached ER (kcell ck) 0)

instance records_persistent (K : Dev nD × Fin 7 → ℕ) : BI.Persistent (records m K) := by unfold records; infer_instance

omit [FloatOps F] in
theorem inv_at (K : Dev nD × Fin 7 → ℕ) (ck : Dev nD × Fin 7) :
    (bigSep Finset.univ fun ck : Dev nD × Fin 7 => (cellInv ER (rd m) (K ck) (kcell ck) : sProp 𝕄)) ⊢ cellInv ER (rd m) (K ck) (kcell ck) :=
  bigSep_elim (Finset.mem_univ ck)
omit [FloatOps F] in
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-- The tokens of the duties device `c` pays. -/
def payToks (c : Dev nD) : sProp 𝕄 := iprop(
    (dutyTok ER (barCell (peer 0 c)) 0 0 ∗ dutyTok ER (barCell (peer 1 c)) 0 1 ∗ dutyTok ER (barCell (peer 2 c)) 0 2)
    ∗ (dutyTok ER ((c : Thread nD τ), .dma sS0) 0 0 ∗ dutyTok ER ((c : Thread nD τ), .dma sS1) 0 0 ∗ dutyTok ER ((c : Thread nD τ), .dma sS2) 0 0)
    ∗ (dutyTok ER ((peer 2 c : Thread nD τ), .dma rV0) 0 0 ∗ dutyTok ER ((peer 1 c : Thread nD τ), .dma rV1) 0 0 ∗ dutyTok ER ((peer 0 c : Thread nD τ), .dma rV2) 0 0))
def linear (c : Dev nD) : sProp 𝕄 :=
  iprop((atPos ER (barCell c) 0 ∅ 0 ∗ atPos ER ((c : Thread nD τ), .dma sS0) 0 ∅ 0 ∗ atPos ER ((c : Thread nD τ), .dma sS1) 0 ∅ 0 ∗ atPos ER ((c : Thread nD τ), .dma sS2) 0 ∅ 0
      ∗ atPos ER ((c : Thread nD τ), .dma rV0) 0 ∅ 0 ∗ atPos ER ((c : Thread nD τ), .dma rV1) 0 ∅ 0 ∗ atPos ER ((c : Thread nD τ), .dma rV2) 0 ∅ 0)
    ∗ payToks c ∗ copySems c)

omit [FloatOps F] in
theorem ghost_intro (K : Dev nD × Fin 7 → ℕ) (c : Dev nD) : iprop(records m K ∗ linear c) ⊢ G' m c := by
  unfold records linear payToks G' ghost
  iintro ⟨⟨#HI, #HR⟩, ⟨HaB, Hd0, Hd1, Hd2, Ha0, Ha1, Ha2⟩, ⟨⟨Ht0, Ht1, Ht2⟩, ⟨Ht3, Ht4, Ht5⟩, Ht6, Ht7, Ht8⟩, Hc⟩
  isplitr [Hc]
  · iexists K
    isplitr
    · isplitr; · iapply (inv_at m K (c, 0)); iexact HI
      isplitr; · iapply (inv_at m K (peer 0 c, 0)); iexact HI
      isplitr; · iapply (inv_at m K (peer 1 c, 0)); iexact HI
      isplitr; · iapply (inv_at m K (peer 2 c, 0)); iexact HI
      isplitr; · iapply (inv_at m K (c, 1)); iexact HI
      isplitr; · iapply (inv_at m K (c, 2)); iexact HI
      isplitr; · iapply (inv_at m K (c, 3)); iexact HI
      isplitr; · iapply (inv_at m K (c, 4)); iexact HI
      isplitr; · iapply (inv_at m K (c, 5)); iexact HI
      isplitr; · iapply (inv_at m K (c, 6)); iexact HI
      isplitr; · iapply (inv_at m K (peer 2 c, 4)); iexact HI
      isplitr; · iapply (inv_at m K (peer 1 c, 5)); iexact HI
      iapply (inv_at m K (peer 0 c, 6)); iexact HI
    isplitr
    · isplitr; · iapply (reached_at (F := F) (peer 0 c, 0)); iexact HR
      isplitr; · iapply (reached_at (F := F) (peer 1 c, 0)); iexact HR
      isplitr; · iapply (reached_at (F := F) (peer 2 c, 0)); iexact HR
      isplitr; · iapply (reached_at (F := F) (c, 4)); iexact HR
      isplitr; · iapply (reached_at (F := F) (c, 5)); iexact HR
      isplitr; · iapply (reached_at (F := F) (c, 6)); iexact HR
      isplitr; · iapply (reached_at (F := F) (c, 1)); iexact HR
      isplitr; · iapply (reached_at (F := F) (c, 2)); iexact HR
      iapply (reached_at (F := F) (c, 3)); iexact HR
    isplitl [Ht0 Ht1 Ht2 Ht3 Ht4 Ht5 Ht6 Ht7 Ht8]
    · isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Ht6]; · iexact Ht6
      isplitl [Ht7]; · iexact Ht7
      iexact Ht8
    isplitl [HaB]; · iexact HaB
    isplitl [Ha0]; · iexact Ha0
    isplitl [Ha1]; · iexact Ha1
    isplitl [Ha2]; · iexact Ha2
    isplitl [Hd0]; · iexact Hd0
    isplitl [Hd1]; · iexact Hd1
    iexact Hd2
  iexact Hc

omit [FloatOps F] in
/-- The tokens dealt around the ring: a barrier's token `k` to the device whose `k`-th signal pays it, a receive cell's to its sender. -/
theorem toks_around : (bigSep Finset.univ fun c : Dev nD => (toks c : sProp 𝕄)) ⊢ bigSep Finset.univ fun c : Dev nD => payToks c := by
  unfold toks payToks
  simp only [bigSep_sep']
  rw [bigSep_univ_equiv (ring 0) (fun c : Dev nD => (dutyTok ER (barCell c) 0 0 : sProp 𝕄)),
    bigSep_univ_equiv (ring 1) (fun c : Dev nD => (dutyTok ER (barCell c) 0 1 : sProp 𝕄)),
    bigSep_univ_equiv (ring 2) (fun c : Dev nD => (dutyTok ER (barCell c) 0 2 : sProp 𝕄)),
    bigSep_univ_equiv (ring 2) (fun c : Dev nD => (dutyTok ER ((c : Thread nD τ), .dma rV0) 0 0 : sProp 𝕄)),
    bigSep_univ_equiv (ring 1) (fun c : Dev nD => (dutyTok ER ((c : Thread nD τ), .dma rV1) 0 0 : sProp 𝕄)),
    bigSep_univ_equiv (ring 0) (fun c : Dev nD => (dutyTok ER ((c : Thread nD τ), .dma rV2) 0 0 : sProp 𝕄))]
  exact BI.Entails.refl _

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c ∗ copySems c) : sProp 𝕄)
      ⊢ bigSep Finset.univ (G' m) := by
  rw [bigSep_sep', bigSep_sep', bigSep_sep', ← bigSep_univ_prod (fun ck : Dev nD × Fin 7 => iprop(∃ κ : ℕ, cellInv ER (rd m) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok, Hc⟩
  ihave HK := (BI.bigSep_exists_pi Finset.univ (fun (ck : Dev nD × Fin 7) (κ : ℕ) => (cellInv ER (rd m) κ (kcell ck) : sProp 𝕄))) $$ HI
  icases HK with ⟨%K, #HI⟩
  ihave Htk := (toks_around (F := F)) $$ Htok
  iapply (with_persistent (R := records m K) fun c _ => ghost_intro m K c)
  isplitr
  · unfold records; isplitl; · iexact HI
    iexact HR
  · unfold linear
    rw [bigSep_sep']
    isplitl [Hat]
    · iapply (show (bigSep Finset.univ fun c : Dev nD => bigSep Finset.univ fun k : Fin 7 => (atPos ER (kcell (c, k)) 0 ∅ 0 : sProp 𝕄)) ⊢ _ from
        bigSep_mono fun c _ => Entails.of_eq (bigSep_fin7 (fun k : Fin 7 => (atPos ER (kcell (c, k)) 0 ∅ 0 : sProp 𝕄))))
      iexact Hat
    rw [bigSep_sep']
    isplitl [Htk]; · iexact Htk
    iexact Hc

omit [FloatOps F] in
/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_eq_iff {a b : Dev nD} : Iff (barCell a = barCell b) (a = b) :=
  ⟨fun h => congrArg (fun g : GSem nD τ sig => g.1.1) h, fun h => h ▸ rfl⟩
theorem recv_eq_iff {a b : Dev nD} {k l : Fin 3} : Iff (recvCell a k = recvCell b l) (a = b ∧ k = l) := by
  constructor
  · intro h
    have h1 := congrArg (fun g : GSem nD τ sig => role g.2) h
    simp only [role_recv] at h1
    exact ⟨congrArg (fun g : GSem nD τ sig => g.1.1) h, Role.recv.inj h1⟩
  · rintro ⟨rfl, rfl⟩; rfl
theorem bar_ne_recv {a b : Dev nD} {k : Fin 3} : barCell a ≠ recvCell b k := fun h => by
  have h1 := congrArg (fun g : GSem nD τ sig => g.2) h
  cases h1

theorem peer_eq_iff (k : Fin 3) (c d : Dev nD) : Iff (c = peer k d) (d = peer (opp k) c) := by revert k c d; decide

/-- What device `d` owes device `c`'s barrier cell: a unit for each of its signals that goes there. -/
theorem owed_bar (d c : Dev nD) : O₀ d (barCell c) () = ((if d = peer 0 c then 1 else 0) + (if d = peer 1 c then 1 else 0)) + (if d = peer 2 c then 1 else 0) := by
  unfold O₀ O₁ O₂ O₃
  simp only [Pi.add_apply, Finsupp.add_apply, tallyAt_apply, and_true]
  rw [if_neg bar_ne_recv, if_neg bar_ne_recv, if_neg bar_ne_recv, Nat.zero_add,
    if_congr (bar_eq_iff.trans (peer_eq_iff 2 c d)) rfl rfl, if_congr (bar_eq_iff.trans (peer_eq_iff 1 c d)) rfl rfl,
    if_congr (bar_eq_iff.trans (peer_eq_iff 0 c d)) rfl rfl]
  rfl

theorem owed_recv (d c : Dev nD) (k : Fin 3) : O₀ d (recvCell c k) () = if d = peer k c then N else 0 := by
  unfold O₀ O₁ O₂ O₃
  simp only [Pi.add_apply, Finsupp.add_apply, tallyAt_apply, and_true]
  rw [if_neg bar_ne_recv.symm, if_neg bar_ne_recv.symm, if_neg bar_ne_recv.symm, Nat.add_zero,
    if_congr recv_eq_iff rfl rfl, if_congr recv_eq_iff rfl rfl, if_congr recv_eq_iff rfl rfl,
    if_congr (and_congr_left' (peer_eq_iff 2 c d)) rfl rfl, if_congr (and_congr_left' (peer_eq_iff 1 c d)) rfl rfl,
    if_congr (and_congr_left' (peer_eq_iff 0 c d)) rfl rfl]
  fin_cases k <;> simp [opp]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (peer 0 c) fun _ => 1, Finset.sum_ite_eq' Finset.univ (peer 1 c) fun _ => 1, Finset.sum_ite_eq' Finset.univ (peer 2 c) fun _ => 1,
    if_pos (Finset.mem_univ _), if_pos (Finset.mem_univ _), if_pos (Finset.mem_univ _)]

theorem launch_recv (c : Dev nD) (k : Fin 3) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k, Finset.sum_ite_eq' Finset.univ (peer k c) fun _ => N,
    if_pos (Finset.mem_univ _)]

omit [FloatOps F] in
theorem creds (c : Dev nD) :
    (Pipeline.launchCred O₀ c : sProp 𝕄) ⊢ iprop(cred (tallyAt (barCell c) () 3) ∗ cred (tallyAt (recvCell c 0) () N) ∗ cred (tallyAt (recvCell c 1) () N) ∗ cred (tallyAt (recvCell c 2) () N)) := by
  unfold Pipeline.launchCred
  refine (bigSep_subset (Finset.subset_univ ({SemLoc.reg barS, .dma rV0, .dma rV1, .dma rV2} : Finset (SemLoc sig)))).trans ?_
  rw [bigSep_eq_bigSepL_of_eq [SemLoc.reg barS, .dma rV0, .dma rV1, .dma rV2] (by decide) (by decide),
    ← launch_bar, ← launch_recv, ← launch_recv, ← launch_recv]
  exact BI.Entails.refl _

/-! ## The theorem's side conditions -/

/-- What each device keeps of its arguments beside what its body's transfers read. -/
def kept (c : Dev nD) : sProp 𝕄 := iprop(
    (((c : Thread nD τ).loc main_arg0) ↦{fullShare.left} m ((c : Thread nD τ).loc main_arg0))
    ∗ (((c : Thread nD τ).loc main_arg1) ↦{fullShare.left} m ((c : Thread nD τ).loc main_arg1)))

omit [FloatOps F] in
/-- Four shares of a buffer out of one. -/
theorem four_shares {ℓ : Loc nD τ sig} (f : Buf (Elt F) ℓ) (q : PosShare TreeShare) (a b d e : ℕ) (h : ({a, b, d, e} : Finset ℕ) ⊆ Finset.range 12)
    (hn : [a, b, d, e].Nodup) :
    (ℓ ↦{q} f : sProp 𝕄) ⊢ iprop((ℓ ↦{Transfers.shareTokN q a} f) ∗ (ℓ ↦{Transfers.shareTokN q b} f) ∗ (ℓ ↦{Transfers.shareTokN q d} f) ∗ (ℓ ↦{Transfers.shareTokN q e} f)) := by
  refine (Transfers.pointsTo_toks_range q 12).1.trans (sep_elim_right.trans ((bigSep_subset h).trans ?_))
  rw [bigSep_eq_bigSepL_of_eq [a, b, d, e] (by simp) hn]
  exact BI.Entails.refl _

omit [FloatOps F] in
theorem narrow {ℓ : Loc nD τ sig} (f : Buf (Elt F) ℓ) (q : PosShare TreeShare) (I : Finset (Idx ℓ)) : (ℓ ↦{q} f : sProp 𝕄) ⊢ (ℓ ↦[I]{q} f) :=
  (pointsTo_split_subset (Finset.subset_univ I)).1.trans sep_elim_left

omit [FloatOps F] in
theorem rest_eq (c : Dev nD) : (Pipeline.unscopedRestP (Ix := Unit) (Name := ℕ) (U := UU) (Lvl := ℕ) Pipeline.Prefetch.none cfg0.spec c (fun b => m ((c : Thread nD τ).loc b)) : sProp 𝕄)
    = iprop((((c : Thread nD τ).loc main_arg0) ↦{fullShare} m ((c : Thread nD τ).loc main_arg0)) ∗ (((c : Thread nD τ).loc main_arg1) ↦{fullShare} m ((c : Thread nD τ).loc main_arg1))) :=
  Pipeline.unscopedRestP_eq_of_list cfg0.spec c Pipeline.Prefetch.none _ [main_arg0, main_arg1] (by decide) (by decide)

omit [FloatOps F] in
theorem args_split (c : Dev nD) :
    iprop((((c : Thread nD τ).loc main_arg0) ↦{fullShare} m ((c : Thread nD τ).loc main_arg0)) ∗ (((c : Thread nD τ).loc main_arg1) ↦{fullShare} m ((c : Thread nD τ).loc main_arg1)))
      ⊢ (iprop(shares m c ∗ kept m c) : sProp 𝕄) := by
  iintro ⟨H0, H1⟩
  ihave H0 := (pointsTo_share (PosShare.mem_left_op_right fullShare)).1 $$ H0
  icases H0 with ⟨H0l, H0⟩
  ihave H1 := (pointsTo_share (PosShare.mem_left_op_right fullShare)).1 $$ H1
  icases H1 with ⟨H1l, H1⟩
  ihave H0 := (four_shares _ _ 1 2 3 11 (by decide) (by decide)) $$ H0
  icases H0 with ⟨Ha, Hb, Hd, He⟩
  ihave H1 := (four_shares _ _ 7 8 9 10 (by decide) (by decide)) $$ H1
  icases H1 with ⟨H7, H8, H9, H10⟩
  unfold shares kept rowsPts xv wv
  isplitr [H0l H1l]
  · isplitl [Ha Hb Hd He]
    · isplitl [Ha]; · iapply (narrow _ _ _) $$ Ha
      isplitl [Hb]; · iapply (narrow _ _ _) $$ Hb
      isplitl [Hd]; · iapply (narrow _ _ _) $$ Hd
      iapply (narrow _ _ _) $$ He
    isplitl [H7]; · iapply (narrow _ _ _) $$ H7
    isplitl [H8]; · iapply (narrow _ _ _) $$ H8
    isplitl [H9]; · iapply (narrow _ _ _) $$ H9
    iapply (narrow _ _ _) $$ H10
  isplitl [H0l]; · iexact H0l
  iexact H1l

def startAll (c : Dev nD) : sProp 𝕄 := iprop(start m c ∗ copySems c)

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(startAll m c ∗ kept m c) := by
  rw [rest_eq]
  iintro ⟨Hargs, Hlev, Hcr, -, HG⟩
  ihave Hc := (creds (F := F) c) $$ Hcr
  icases Hc with ⟨H1, H2, H3, H4⟩
  ihave Ha := (args_split m c) $$ Hargs
  icases Ha with ⟨Ha, Hk⟩
  imodintro
  unfold startAll start G' credits
  icases HG with ⟨HG, Hs⟩
  isplitr [Hk]
  · isplitr [Hs]
    · isplitl [HG]; · iexact HG
      isplitr [Ha]
      · isplitl [H1]; · iexact H1
        isplitl [H2]; · iexact H2
        isplitl [H3]; · iexact H3
        isplitl [H4]; · iexact H4
        iexact Hlev
      iexact Ha
    iexact Hs
  iexact Hk

theorem phi0_intro (c : Dev nD) :
    iprop(startAll m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, show (Pipeline.scopedRest cfg0.spec c : sProp 𝕄) = bufs c from scopedRest0_eq c]
  unfold Φ₀ startAll
  iintro ⟨⟨Hs, Hc⟩, -, Hr⟩
  isplitl [Hs]; · iexact Hs
  isplitl [Hc]; · iexact Hc
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, show (Pipeline.scopedRest cfg0.spec c : sProp 𝕄) = bufs c from scopedRest0_eq c, ownSems0_eq, unscopedSems0_eq]
  unfold Φ₁ ringSems copySems
  iintro ⟨Hr, ⟨⟨H1, H2, H3, H4, H5, H6⟩, Hc⟩, HB⟩
  isplitl [HB]; · iexact HB
  isplitr [Hr]
  · isplitl [H1]; · iexact H1
    isplitl [H2]; · iexact H2
    isplitl [H3]; · iexact H3
    isplitl [H4]; · iexact H4
    isplitl [H5]; · iexact H5
    isplitl [H6]; · iexact H6
    iexact Hc
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- A share of an argument is at the contents the memory has. -/
theorem kept_read (c : Dev nD) (b : Ref sig .tc) (q : PosShare TreeShare) (f : Buf (Elt F) ((c : Thread nD τ).loc b)) (s' : Phys nD τ sig (Elt F)) :
    (iprop(SI s' ∗ (((c : Thread nD τ).loc b) ↦{q} f)) : sProp 𝕄) ⊢ ⌜s'.mem.mem ((c : Thread nD τ).loc b) = f⌝ :=
  SI_pointsTo_agree.trans (BI.pure_mono fun h => funext fun i => h i (Finset.mem_univ i))

/-! ## The run -/

/-- What every run ends in: the results the body stored, both arguments as they were. -/
def QC (r : PUnit × MemSt nD τ sig (Elt F)) : Prop :=
  ∀ c : Dev nD, r.2.mem ((c : Thread nD τ).loc main_v1) = (dats m ρ 0 c).arrAt (0 : Fin 1) cfg0.N
    ∧ r.2.mem ((c : Thread nD τ).loc main_arg0) = m ((c : Thread nD τ).loc main_arg0)
    ∧ r.2.mem ((c : Thread nD τ).loc main_arg1) = m ((c : Thread nD τ).loc main_arg1)

/-- For any float values, from any memory with zero counters: every weakly fair execution of the program on the four
    devices ends, in a state that `QC` describes and with every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave H := (own_pair_emb (F := embR) _ _) $$ HX
      icases H with ⟨HX, -⟩
      imod (fund_ring m) $$ HX with HG
      imodintro
      isplitl [HP] <;> iassumption)
    (hglob := glob m)
    (hA := fun _ _ => rfl) (hpf := fun _ k => k.elim0)
    (X := startAll m) (Y := fun c => unscopedSems0 c) (Z := kept m)
    (hX := start_intro m ρ) (hin := phi0_intro m ρ) (hout := phi1_exit m ρ)
    (QY := fun c s => (s.mem ((c : Thread nD τ).loc main_arg0) = m ((c : Thread nD τ).loc main_arg0)
        ∧ s.mem ((c : Thread nD τ).loc main_arg1) = m ((c : Thread nD τ).loc main_arg1))
      ∧ ∀ sm : SemLoc sig, sm.isScoped .tc = false → s.sem ((c.tc : Thread nD τ), sm) = 0)
    (hY := fun c s' => by
      unfold kept
      iintro ⟨Hu, ⟨H0, H1⟩, HSI⟩
      ihave %h0 := (kept_read c main_arg0 _ _ s') $$ [HSI H0]
      · isplitl [HSI] <;> iassumption
      ihave %h1 := (kept_read c main_arg1 _ _ s') $$ [HSI H1]
      · isplitl [HSI] <;> iassumption
      imod (Pipeline.unscopedSems0_read (X := unscopedSems0 c) (c := c) fupd_intro s') $$ [Hu HSI] with ⟨%h2, HSI⟩
      · isplitl [Hu] <;> iassumption
      imodintro
      isplitr
      · ipureintro; exact ⟨⟨h0, h1⟩, h2⟩
      iexact HSI)
    (hQ := fun _ h hs => ⟨fun c => ⟨(h c).1 0, (h c).2.2.1⟩, sem_eq_zero hs fun c => (h c).2.2.2⟩)

end Cert.KernelIdealProof

end
-- ==== Proof.KernelIdeal.Value.lean ====
/-
# What the body's stores leave

Every column of blocks is written four times: the own block's product, then the products of the blocks that came from
the other devices added one by one, the last one with the activation applied. Here the list of stores that executing the
body gave is read column by column.
-/
module

public import proofs.«01_k».proof.Proof.KernelIdeal.Launch
public import Idealize.ShloMosaic.Lib.Pipeline.ReadBack
public import Idealize.ShloMosaic.Lib.Pipeline.Value
public import Idealize.ShloMosaic.Lib.VecWindow

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]
local notation "𝕄" => MT nD τ sig Unit (Elt F) ℕ UU ℕ
variable (m : (ℓ : Loc nD τ sig) → Buf (Elt F) ℓ) (ρ : Dev nD → PrngReg)

/-! ## The operations of one tile -/

/-- The product of a block of `x`, in the accumulator's format, with a block of `w`. -/
def mm (x : FVec F S1024x1024 .f32) (w : FVec F S1024x1024 .bf16) : FVec F S1024x1024 .f32 :=
  matmul dot_S1024x1024_S1024x1024_S1024x1024_1_0_0_1_n_n none x w (constant S1024x1024 .f32 0x00000000#32)

/-- The activation as the kernel spells it. -/
def act (z : FVec F S1024x1024 .f32) : FVec F S1024x1024 .f32 :=
  mulf (mulf (broadcast S1024x1024 (Scalar.ofBits .f32 0x3F000000#32)) z)
    (addf (broadcast S1024x1024 (Scalar.ofBits .f32 0x3F800000#32))
      (tanh (mulf (broadcast S1024x1024 (Scalar.ofBits .f32 0x3F4C422A#32))
        (addf z (mulf (mulf (mulf (broadcast S1024x1024 (Scalar.ofBits .f32 0x3D372713#32)) z) z) z)))))

/-- A slot of the receive buffer or of `w`'s, as a matrix. -/
abbrev flat (w : FVec F S1x1024x1024 .bf16) : FVec F S1024x1024 .bf16 := shapeCast S1024x1024 w shapeCasts_S1x1024x1024_S1024x1024

/-! ## The stored values -/

theorem pay_first (x : FVec F S1024x1024 .f32) (w : FVec F S1x1024x1024 .bf16) :
    k0_pay2 x w = mm x (flat w) ∧ k0_pay3 x w = mm x (flat w) ∧ k0_pay4 x w = mm x (flat w) ∧ k0_pay5 x w = mm x (flat w)
      ∧ k0_pay6 x w = mm x (flat w) ∧ k0_pay7 x w = mm x (flat w) ∧ k0_pay8 x w = mm x (flat w) ∧ k0_pay9 x w = mm x (flat w)
      ∧ k0_pay11 x w = mm x (flat w) ∧ k0_pay24 x w = mm x (flat w) :=
  ⟨rfl, rfl, rfl, rfl, rfl, rfl, rfl, rfl, rfl, rfl⟩

theorem pay_add (x : FVec F S1024x1024 .f32) (w : FVec F S1x1024x1024 .bf16) (a : FVec F S1024x1024 .f32) :
    k0_pay13 x w a = addf a (mm x (flat w)) ∧ k0_pay14 x w a = addf a (mm x (flat w)) ∧ k0_pay17 x w a = addf a (mm x (flat w))
      ∧ k0_pay18 x w a = addf a (mm x (flat w)) ∧ k0_pay19 x w a = addf a (mm x (flat w)) ∧ k0_pay20 x w a = addf a (mm x (flat w))
      ∧ k0_pay22 x w a = addf a (mm x (flat w)) ∧ k0_pay23 x w a = addf a (mm x (flat w)) ∧ k0_pay26 x w a = addf a (mm x (flat w))
      ∧ k0_pay27 x w a = addf a (mm x (flat w)) ∧ k0_pay30 x w a = addf a (mm x (flat w)) ∧ k0_pay31 x w a = addf a (mm x (flat w)) := by
  simp only [k0_pay13, k0_pay14, k0_pay17, k0_pay18, k0_pay19, k0_pay20, k0_pay22, k0_pay23, k0_pay26, k0_pay27, k0_pay30, k0_pay31,
    shapeCast_self, mm, and_self]

/-- The same where the product is a value of an earlier stretch of the body, -/
theorem pay_sum (a b : FVec F S1024x1024 .f32) : k0_pay12 b a = addf a b ∧ k0_pay25 b a = addf a b := by
  simp only [k0_pay12, k0_pay25, shapeCast_self, and_self]

/-- or its operand is. -/
theorem pay_add' (x : FVec F S1024x1024 .f32) (w : FVec F S1024x1024 .bf16) (a : FVec F S1024x1024 .f32) :
    k0_pay16 x w (constant S1024x1024 .f32 0x00000000#32) a = addf a (mm x w)
      ∧ k0_pay29 x w a = addf a (mm x w) := by
  simp only [k0_pay16, k0_pay29, shapeCast_self, mm, and_self]

theorem pay_act (x : FVec F S1024x1024 .f32) (w : FVec F S1x1024x1024 .bf16) (a : FVec F S1024x1024 .f32) :
    k0_pay33 x w a = act (addf a (mm x (flat w))) ∧ k0_pay34 x w a = act (addf a (mm x (flat w)))
      ∧ k0_pay37 (k0_pay35 x w a) (k0_pay36 x w a) = act (addf a (mm x (flat w))) ∧ k0_pay38 x w a = act (addf a (mm x (flat w)))
      ∧ k0_pay39 x w a = act (addf a (mm x (flat w))) ∧ k0_pay40 x w a = act (addf a (mm x (flat w)))
      ∧ k0_pay41 x w a = act (addf a (mm x (flat w))) ∧ k0_pay42 x w a = act (addf a (mm x (flat w))) := by
  simp only [k0_pay33, k0_pay34, k0_pay35, k0_pay36, k0_pay37, k0_pay38, k0_pay39, k0_pay40, k0_pay41, k0_pay42,
    shapeCast_self, mm, act, and_self]

theorem pay_own (x : FVec F S1024x1024 .bf16) : k0_pay1 x = extf .f32 x bitsLt_bf16_f32 := by
  simp only [k0_pay1, shapeCast_self]

theorem pay_cast (w : FVec F S1x1024x1024 .bf16) :
    k0_pay10 w = extf .f32 (flat w) bitsLt_bf16_f32
      ∧ k0_pay21 w = extf .f32 (flat w) bitsLt_bf16_f32 ∧ k0_pay32 w = extf .f32 (flat w) bitsLt_bf16_f32 := by
  simp only [k0_pay10, k0_pay21, k0_pay32, shapeCast_self, and_self]

/-! ## The buffers read back -/

omit [FloatOps F] in
/-- A slot of `w`'s buffer, read after a block was written over it, is that block. -/
theorem slot_read {o : Fin 3 → ℕ} (h h' : ∀ i, o i + S1x1024x1024.size i ≤ S4x1024x1024.size i) (f : wM.view.ty.Contents (Elt F))
    (d : S1024x1024.Idx → Elt F .bf16) (L : List (View.Piece (Elt F) S1024x1024 .bf16)) :
    shapeCast S1024x1024 (wM.view.readAt (Elt F) (Rect.unit (s := S4x1024x1024) o S1x1024x1024.size h).toLoadRect
      (((wM.slice (Rect.unit (s := S4x1024x1024) o S1x1024x1024.size h') (fun _ => rfl)).squeeze S1024x1024
        squeezes_S1x1024x1024_S1024x1024).view.writes (Elt F) f (⟨Rect.whole S1024x1024, d⟩ :: L))) shapeCasts_S1x1024x1024_S1024x1024 = d := by
  funext y
  have e := View.read_writes_cons_emb (((wM.slice (Rect.unit (s := S4x1024x1024) o S1x1024x1024.size h') (fun _ => rfl)).squeeze S1024x1024
        squeezes_S1x1024x1024_S1024x1024).view) f (Rect.whole S1024x1024) d L y
  rw [Rect.emb_whole_apply] at e
  exact e

/-- The four slots of `w`'s buffer, each by its own text. -/
theorem slot_reads (d : S1024x1024.Idx → Elt F .bf16) (L : List (View.Piece (Elt F) S1024x1024 .bf16)) :
    flat (wM.view.readAt (Elt F) (Rect.unit (s := S4x1024x1024) ![0, 0, 0] S1x1024x1024.size inb_S4x1024x1024_S1x1024x1024_0_0_0).toLoadRect
        (wL0.view.writes (Elt F) wL0.view.junk (⟨Rect.whole S1024x1024, d⟩ :: L))) = d
      ∧ flat (wM.view.readAt (Elt F) (Rect.unit (s := S4x1024x1024) ![1, 0, 0] S1x1024x1024.size inb_S4x1024x1024_S1x1024x1024_1_0_0).toLoadRect
        (wL1.view.writes (Elt F) wL1.view.junk (⟨Rect.whole S1024x1024, d⟩ :: L))) = d
      ∧ flat (wM.view.readAt (Elt F) (Rect.unit (s := S4x1024x1024) ![2, 0, 0] S1x1024x1024.size inb_S4x1024x1024_S1x1024x1024_2_0_0).toLoadRect
        (wL2.view.writes (Elt F) wL2.view.junk (⟨Rect.whole S1024x1024, d⟩ :: L))) = d
      ∧ flat (wM.view.readAt (Elt F) (Rect.unit (s := S4x1024x1024) ![3, 0, 0] S1x1024x1024.size inb_S4x1024x1024_S1x1024x1024_3_0_0).toLoadRect
        (wL3.view.writes (Elt F) wL3.view.junk (⟨Rect.whole S1024x1024, d⟩ :: L))) = d :=
  ⟨slot_read _ _ _ d L, slot_read _ _ _ d L, slot_read _ _ _ d L, slot_read _ _ _ d L⟩

omit [FloatOps F] in
/-- A slot of the receive buffer, read after its block has landed, is that block. -/
theorem landed_read (c : Dev nD) (k : Fin 3) (h : ∀ i, rOff k i + S1x1024x1024.size i ≤ S3x1024x1024.size i) :
    shapeCast S1024x1024 (rM.view.readAt (Elt F) (Rect.unit (s := S3x1024x1024) (rOff k) S1x1024x1024.size h).toLoadRect
      (landed m c k)) shapeCasts_S1x1024x1024_S1024x1024 = blk m c k :=
  View.read_write_univ (v := (rS k).view) (m ((rS k).view.loc (c : Thread nD τ))) (blk m c k)

/-- A buffer read after one store over all of it. -/
theorem read_back (d : S1024x1024.Idx → Elt F .bf16) (h : ∀ i, (![0, 0] : Fin 2 → ℕ) i + S1024x1024.size i ≤ S1024x1024.size i) :
    lM.view.readCov [⟨Rect.whole S1024x1024, d⟩] (Rect.unit (s := S1024x1024) ![0, 0] S1024x1024.size h).toLoadRect = d := by
  funext j
  rw [View.readCov, View.readAt_apply, View.read_writes_whole]
  show d ((Rect.unit (s := S1024x1024) ![0, 0] S1024x1024.size h).emb j) = d j
  rw [Rect.emb_unit_full]

/-! ## The left operands -/

/-- The device's own block of `x`. -/
def own (c : Dev nD) : S1024x1024.Idx → Elt F .bf16 := (xSrc c).view.read (Elt F) (xv m c)

theorem lhs_eq (c : Dev nD) :
    run.sl.v199 m c = extf .f32 (own m c) bitsLt_bf16_f32 ∧ run.sl.v m c = extf .f32 (own m c) bitsLt_bf16_f32
      ∧ run.sl.v525 m c = extf .f32 (blk m c 0) bitsLt_bf16_f32 ∧ run.sl.v777 m c = extf .f32 (blk m c 0) bitsLt_bf16_f32
      ∧ run.sl.v875 m c = extf .f32 (blk m c 2) bitsLt_bf16_f32 ∧ run.sl.v1085 m c = extf .f32 (blk m c 2) bitsLt_bf16_f32
      ∧ run.sl.v1225 m c = extf .f32 (blk m c 1) bitsLt_bf16_f32 := by
  have e : run.sl.v177 m c = own m c := by
    have d : run.sl.dma0 m c = own m c := rfl
    rw [run.sl.v177, d, read_back]
  have l0 := landed_read m c 0 (inb_S3x1024x1024_S1x1024x1024_0_0_0)
  have l1 := landed_read m c 1 (inb_S3x1024x1024_S1x1024x1024_1_0_0)
  have l2 := landed_read m c 2 (inb_S3x1024x1024_S1x1024x1024_2_0_0)
  simp (proj := false) only [run.sl.v199, run.sl.v, run.sl.v525, run.sl.v777, run.sl.v875, run.sl.v1085, run.sl.v1225,
    run.sl.Hf_1, run.sl.Hf_2, run.sl.Hf_3, run.sl.Hf_4, View.readCov_cons_toLoadRect, pay_own, pay_cast, flat, e, l0, l1, l2, and_self]

/-! ## The columns -/

/-- Where the tile of `w` for column `n` and the block that came from `r` places on is read. -/
abbrev wOff (c : Dev nD) (r : Fin 4) : Fin 8 → Fin 2 → ℕ := fun
  | 0 => k0_off3 c (BitVec.ofNat 32 r.val) | 1 => k0_off4 c (BitVec.ofNat 32 r.val)
  | 2 => k0_off5 c (BitVec.ofNat 32 r.val) | 3 => k0_off6 c (BitVec.ofNat 32 r.val)
  | 4 => k0_off7 c (BitVec.ofNat 32 r.val) | 5 => k0_off8 c (BitVec.ofNat 32 r.val)
  | 6 => k0_off9 c (BitVec.ofNat 32 r.val) | 7 => k0_off10 c (BitVec.ofNat 32 r.val)

theorem wOff_eq (c : Dev nD) (r : Fin 4) (n : Fin 8) : wOff c r n = ![1024 * ((c.val + r.val) % 4), 1024 * n.val] := by
  revert c r n; decide +kernel

theorem wOff_inb (c : Dev nD) (r : Fin 4) (n : Fin 8) : ∀ a, wOff c r n a + S1024x1024.size a ≤ S4096x8192.size a := by
  rw [wOff_eq]; revert c r n; decide +kernel

/-- That tile. -/
def tile (c : Dev nD) (r : Fin 4) (n : Fin 8) : S1024x1024.Idx → Elt F .bf16 :=
  (wA.slice (Rect.unit (s := S4096x8192) (wOff c r n) S1024x1024.size (wOff_inb c r n)) (fun _ => rfl)).view.read (Elt F) (wv m c)

/-- One product of the sum in column `n`. -/
abbrev part (c : Dev nD) (x : S1024x1024.Idx → Elt F .bf16) (r : Fin 4) (n : Fin 8) : FVec F S1024x1024 .f32 :=
  mm (extf .f32 x bitsLt_bf16_f32) (tile m c r n)

/-- The whole sum of column `n`, in the order the blocks arrive. -/
def total (c : Dev nD) (n : Fin 8) : FVec F S1024x1024 .f32 :=
  addf (addf (addf (part m c (own m c) 0 n) (part m c (blk m c 0) 1 n)) (part m c (blk m c 2) 3 n)) (part m c (blk m c 1) 2 n)

theorem colOff_inb (n : Fin 8) : ∀ a, (![0, 1024 * n.val] : Fin 2 → ℕ) a + S1024x1024.size a ≤ S1024x8192.size a := by
  revert n; decide +kernel

/-- The columns of the output that the `n`-th block of columns takes. -/
abbrev colRect (n : Fin 8) : Rect S1024x8192 := Rect.unit (s := S1024x8192) ![0, 1024 * n.val] S1024x1024.size (colOff_inb n)

theorem run_stores (c : Dev nD) : (run m c).1 = ⟨Rect.unit (s := S1024x8192) ![0, 7168] S1024x1024.size inb_S1024x8192_S1024x1024_0_7168,
    k0_pay42 (run.sl.v1225 m c) (run.sl.v1560 m c) (run.sl.v1563 m c)⟩ :: run.sl.Ho_31 m c := rfl

/-- What the stores leave, block of columns by block of columns. -/
theorem out_cols (c : Dev nD) :
    oM.view.readCov (run m c).1 (Rect.unit (s := S1024x8192) ![0, 0] S1024x1024.size inb_S1024x8192_S1024x1024_0_0).toLoadRect = act (total m c 0)
      ∧ oM.view.readCov (run m c).1 (Rect.unit (s := S1024x8192) ![0, 1024] S1024x1024.size inb_S1024x8192_S1024x1024_0_1024).toLoadRect = act (total m c 1)
      ∧ oM.view.readCov (run m c).1 (Rect.unit (s := S1024x8192) ![0, 2048] S1024x1024.size inb_S1024x8192_S1024x1024_0_2048).toLoadRect = act (total m c 2)
      ∧ oM.view.readCov (run m c).1 (Rect.unit (s := S1024x8192) ![0, 3072] S1024x1024.size inb_S1024x8192_S1024x1024_0_3072).toLoadRect = act (total m c 3)
      ∧ oM.view.readCov (run m c).1 (Rect.unit (s := S1024x8192) ![0, 4096] S1024x1024.size inb_S1024x8192_S1024x1024_0_4096).toLoadRect = act (total m c 4)
      ∧ oM.view.readCov (run m c).1 (Rect.unit (s := S1024x8192) ![0, 5120] S1024x1024.size inb_S1024x8192_S1024x1024_0_5120).toLoadRect = act (total m c 5)
      ∧ oM.view.readCov (run m c).1 (Rect.unit (s := S1024x8192) ![0, 6144] S1024x1024.size inb_S1024x8192_S1024x1024_0_6144).toLoadRect = act (total m c 6)
      ∧ oM.view.readCov (run m c).1 (Rect.unit (s := S1024x8192) ![0, 7168] S1024x1024.size inb_S1024x8192_S1024x1024_0_7168).toLoadRect = act (total m c 7) := by
  rw [run_stores]
  simp (proj := false) (disch := decide) only [↓View.readCov_skip, ↓View.readCov_cons_toLoadRect, pay_first, pay_add, pay_sum, pay_add', pay_act,
    slot_reads, lhs_eq, k0_pay15,
    run.sl.Ho_1, run.sl.Ho_2, run.sl.Ho_3, run.sl.Ho_4, run.sl.Ho_5, run.sl.Ho_6, run.sl.Ho_7, run.sl.Ho_8, run.sl.Ho_9, run.sl.Ho_10, run.sl.Ho_11,
    run.sl.Ho_12, run.sl.Ho_13, run.sl.Ho_14, run.sl.Ho_15, run.sl.Ho_16, run.sl.Ho_17, run.sl.Ho_18, run.sl.Ho_19, run.sl.Ho_20, run.sl.Ho_21,
    run.sl.Ho_22, run.sl.Ho_23, run.sl.Ho_24, run.sl.Ho_25, run.sl.Ho_26, run.sl.Ho_27, run.sl.Ho_28, run.sl.Ho_29, run.sl.Ho_30, run.sl.Ho_31,
    run.sl.v526, run.sl.v529, run.sl.v568, run.sl.v571, run.sl.v610, run.sl.v613, run.sl.v652, run.sl.v655, run.sl.v694, run.sl.v697, run.sl.v736,
    run.sl.v739, run.sl.v778, run.sl.v781, run.sl.v820, run.sl.v823, run.sl.v876, run.sl.v879, run.sl.v918, run.sl.v921, run.sl.v960, run.sl.v963,
    run.sl.v1002, run.sl.v1005, run.sl.v1044, run.sl.v1047, run.sl.v1086, run.sl.v1087, run.sl.v1089, run.sl.v1128, run.sl.v1131, run.sl.v1170,
    run.sl.v1173, run.sl.v1226, run.sl.v1229, run.sl.v1281, run.sl.v1284, run.sl.v1336, run.sl.v1339, run.sl.v1391, run.sl.v1394, run.sl.v1446,
    run.sl.v1449, run.sl.v1484, run.sl.v1487, run.sl.v1522, run.sl.v1525, run.sl.v1560, run.sl.v1563, run.sl.v356, run.sl.v395, run.sl.v434,
    run.sl.v473, run.sl.r, run.sl.r_1, run.sl.r_2, run.sl.r_3, run.sl.r_4, run.sl.r_5, run.sl.cst_529]
  exact ⟨rfl, rfl, rfl, rfl, rfl, rfl, rfl, rfl⟩

/-- The same of the `n`-th block. -/
theorem out_col (c : Dev nD) (n : Fin 8) : oM.view.readCov (run m c).1 (colRect n).toLoadRect = act (total m c n) := by
  obtain ⟨h0, h1, h2, h3, h4, h5, h6, h7⟩ := out_cols m c
  match n with
  | 0 => exact h0
  | 1 => exact h1
  | 2 => exact h2
  | 3 => exact h3
  | 4 => exact h4
  | 5 => exact h5
  | 6 => exact h6
  | 7 => exact h7

end Cert.KernelIdealProof
-- ==== Proof.KernelIdeal.Equation.lean ====
/-
# What the kernel computes is the reference's block

Over the extended reals each device's four products, added in the order in which the blocks arrive, are the reference's
one sum over all the columns of `x`, and the two spellings of the activation agree.
-/
module

public import proofs.«01_k».proof.Proof.KernelIdeal.Value
public import proofs.«01_k».proof.Proof.Gen.ReferenceIdeal.Run
public import Idealize.ShloMosaic.Lib.Pointwise
public import Idealize.ShloMosaic.Lib.Pipeline.ValueKit.Geometry

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable (m : (ℓ : Loc nD τ sig) → Buf (Elt Ideal) ℓ) (ρ : Dev nD → PrngReg)

/-! ## Positions -/

/-- Position `i` of the `s`-th of four stretches, -/
def at4 (s : Fin 4) (i : Fin 1024) : Fin 4096 := ⟨s.val * 1024 + i.val, by omega⟩
/-- and of the `n`-th of eight. -/
def at8 (n : Fin 8) (j : Fin 1024) : Fin 8192 := ⟨n.val * 1024 + j.val, by omega⟩
/-- The device `r` places after `c`. -/
def from4 (c : Fin 4) (r : Fin 4) : Fin 4 := ⟨(c.val + r.val) % 4, Nat.mod_lt _ (by decide)⟩

theorem xOff_eq (c : Dev nD) (k : Fin 3) : xOff (peer k c) (opp k) = ![1024 * c.val, 0] := by revert c k; decide +kernel

/-- `x` is cut in four blocks of columns, the result in four of rows. -/
theorem tiles_x : Layout.Tiles ⟨2, ![4096, 1024]⟩ ⟨2, ![4096, 4096]⟩ 1 4 := by decide
theorem tiles_out : Layout.Tiles ⟨2, ![1024, 8192]⟩ ⟨2, ![4096, 8192]⟩ 0 4 := by decide

/-! ## The operands at an index -/

/-- A block of `x`'s columns read through its slice. -/
theorem x_read (f : S4096x1024.Idx → Elt Ideal .bf16) (c : Fin 4) {o : Fin 2 → ℕ} (h : ∀ a, o a + S1024x1024.size a ≤ S4096x1024.size a)
    (e : o = ![1024 * c.val, 0]) (i k : Fin 1024) :
    (xA.slice (Rect.unit (s := S4096x1024) o S1024x1024.size h) (fun _ => rfl)).view.read (Elt Ideal) f (ix2 i k) = f (ix2 (at4 c i) k) := by
  subst e
  refine congrArg f (funext fun a => Fin.ext ?_)
  match a with
  | ⟨0, _⟩ => show 1024 * c.val + 1 * i.val = c.val * 1024 + i.val; omega
  | ⟨1, _⟩ => show 0 + 1 * k.val = k.val; omega

/-- A block of `w` read through its slice. -/
theorem w_read (f : S4096x8192.Idx → Elt Ideal .bf16) (s : Fin 4) (n : Fin 8) {o : Fin 2 → ℕ} (h : ∀ a, o a + S1024x1024.size a ≤ S4096x8192.size a)
    (e : o = ![1024 * s.val, 1024 * n.val]) (k j : Fin 1024) :
    (wA.slice (Rect.unit (s := S4096x8192) o S1024x1024.size h) (fun _ => rfl)).view.read (Elt Ideal) f (ix2 k j) = f (ix2 (at4 s k) (at8 n j)) := by
  subst e
  refine congrArg f (funext fun a => Fin.ext ?_)
  match a with
  | ⟨0, _⟩ => show 1024 * s.val + 1 * k.val = s.val * 1024 + k.val; omega
  | ⟨1, _⟩ => show 1024 * n.val + 1 * j.val = n.val * 1024 + j.val; omega

variable (A : (⟨2, ![4096, 4096]⟩ : Shape).Idx → Elt Ideal .bf16) (B : (⟨2, ![4096, 8192]⟩ : Shape).Idx → Elt Ideal .bf16)
  (hA : ∀ c : Dev nD, m ((c : Thread nD τ).loc main_arg0) = Layout.block ⟨2, ![4096, 1024]⟩ ⟨2, ![4096, 4096]⟩ 1 4 c A tiles_x)
  (hB : ∀ c : Dev nD, m ((c : Thread nD τ).loc main_arg1) = B)

include hA in
theorem xv_apply (c : Dev nD) (r : Fin 4096) (k : Fin 1024) : xv m c (ix2 r k) = A (ix2 r (at4 c k)) := by
  rw [xv, hA]
  refine congrArg A (funext fun a => Fin.ext ?_)
  match a with
  | ⟨0, _⟩ => rfl
  | ⟨1, _⟩ => rfl

include hA in
theorem own_apply (c : Dev nD) (i k : Fin 1024) : own m c (ix2 i k) = A (ix2 (at4 c i) (at4 c k)) :=
  (x_read (xv m c) c _ (k0_off1_eq c) i k).trans (xv_apply m A hA c _ _)

include hA in
theorem blk_apply (c : Dev nD) (k0 : Fin 3) (i k : Fin 1024) : blk m c k0 (ix2 i k) = A (ix2 (at4 c i) (at4 (peer k0 c) k)) :=
  (x_read (xv m (peer k0 c)) c _ (xOff_eq c k0) i k).trans (xv_apply m A hA _ _ _)

include hB in
theorem tile_apply (c : Dev nD) (r : Fin 4) (n : Fin 8) (k j : Fin 1024) :
    tile m c r n (ix2 k j) = B (ix2 (at4 (from4 c r) k) (at8 n j)) :=
  (w_read (wv m c) (from4 c r) n (wOff_inb c r n) (wOff_eq c r n) k j).trans (congrFun (hB c) _)

/-! ## The sums -/

/-- The products of one stretch of the contracted columns. -/
def stretch (s : Fin 4) (r : Fin 4096) (l : Fin 8192) : EReal := ∑ k : Fin 1024, A (ix2 r (at4 s k)) * B (ix2 (at4 s k) l)

theorem mm_apply (x w : S1024x1024.Idx → Elt Ideal .bf16) (i j : Fin 1024) :
    mm (F := Ideal) (extf .f32 x bitsLt_bf16_f32) w (ix2 i j) = ∑ k : Fin 1024, x (ix2 i k) * w (ix2 k j) := by
  pointwise [mm]

include hA hB in
theorem part_own (c : Dev nD) (n : Fin 8) (i j : Fin 1024) :
    part m c (own m c) 0 n (ix2 i j) = stretch A B (from4 c 0) (at4 c i) (at8 n j) := by
  have e : from4 c 0 = c := by revert c; decide
  rw [part, mm_apply]
  refine Finset.sum_congr rfl fun k _ => ?_
  rw [own_apply m A hA, tile_apply m B hB, e]

include hA hB in
theorem part_blk (c : Dev nD) (k0 : Fin 3) (r : Fin 4) (e : from4 c r = peer k0 c) (n : Fin 8) (i j : Fin 1024) :
    part m c (blk m c k0) r n (ix2 i j) = stretch A B (from4 c r) (at4 c i) (at8 n j) := by
  rw [part, mm_apply]
  refine Finset.sum_congr rfl fun k _ => ?_
  rw [blk_apply m A hA, tile_apply m B hB, e]

/-- The four stretches, from any of them on and in the order of arrival, are the whole sum. -/
theorem stretches (c : Fin 4) (r : Fin 4096) (l : Fin 8192) :
    stretch A B (from4 c 0) r l + stretch A B (from4 c 1) r l + stretch A B (from4 c 3) r l + stretch A B (from4 c 2) r l
      = ∑ k : Fin 4096, A (ix2 r k) * B (ix2 k l) := by
  have e : ∑ k : Fin 4096, A (ix2 r k) * B (ix2 k l) = ∑ s : Fin 4, stretch A B s r l :=
    Fin.sum_univ_tiles 4 1024 rfl fun k : Fin 4096 => A (ix2 r k) * B (ix2 k l)
  rw [e, Fin.sum_univ_four]
  generalize stretch A B = g
  match c with
  | 0 => show g 0 r l + g 1 r l + g 3 r l + g 2 r l = _; ac_rfl
  | 1 => show g 1 r l + g 2 r l + g 0 r l + g 3 r l = _; ac_rfl
  | 2 => show g 2 r l + g 3 r l + g 1 r l + g 0 r l = _; ac_rfl
  | 3 => show g 3 r l + g 0 r l + g 2 r l + g 1 r l = _; ac_rfl

include hA hB in
theorem total_apply (c : Dev nD) (n : Fin 8) (i j : Fin 1024) :
    total m c n (ix2 i j) = ∑ k : Fin 4096, A (ix2 (at4 c i) k) * B (ix2 k (at8 n j)) := by
  have e : ∀ c : Dev nD, from4 c 1 = peer 0 c ∧ from4 c 3 = peer 2 c ∧ from4 c 2 = peer 1 c := by decide
  rw [← stretches A B c, ← part_own m A B hA hB, ← part_blk m A B hA hB c 0 1 (e c).1, ← part_blk m A B hA hB c 2 3 (e c).2.1,
    ← part_blk m A B hA hB c 1 2 (e c).2.2]
  rfl

/-! ## The whole result -/

/-- The reference's result of the whole arrays. -/
def whole : (⟨2, ![4096, 8192]⟩ : Shape).Idx → Elt Ideal .f32 :=
  let y : FVec Ideal Cert.ReferenceIdeal.S4096x8192 .f32 := extf .f32 (truncf .bf16 (Host.dotGeneral (φ₁ := .bf16) (φ₂ := .bf16) Cert.ReferenceIdeal.dot_S4096x4096_S4096x8192_S4096x8192_1_0_0_1_n_n none A B)
    Cert.ReferenceIdeal.Gen.bitsLt_bf16_f32) Cert.ReferenceIdeal.Gen.bitsLt_bf16_f32
  let const (b : BitVec 32) : FVec Ideal Cert.ReferenceIdeal.S4096x8192 .f32 :=
    broadcastInDim Cert.ReferenceIdeal.S4096x8192 ![] Cert.ReferenceIdeal.Gen.bcast_S_S4096x8192 (constant Cert.ReferenceIdeal.S_ .f32 b)
  mulf (mulf (const 0x3F000000#32) y) (addf (const 0x3F800000#32) (Host.tanh (mulf (const 0x3F4C422A#32)
    (addf y (mulf (const 0x3D372713#32) (mulf (mulf y y) y))))))

/-- The kernel's activation of a tile whose element is the whole sum is the reference's result there. -/
theorem act_eq (z : FVec Ideal S1024x1024 .f32) (i j : Fin 1024) (r : Fin 4096) (l : Fin 8192)
    (e : z (ix2 i j) = ∑ k : Fin 4096, A (ix2 r k) * B (ix2 k l)) : act z (ix2 i j) = whole A B (ix2 r l) := by
  pointwise [act, whole]
  rw [e]
  simp only [mul_assoc]

/-- A load of the output's buffer after the stores `L` reads the elements under its rectangle. -/
theorem readCov_out (L : List (View.Piece (Elt Ideal) S1024x8192 .f32)) (r : Rect S1024x8192) (x : r.shape.Idx) :
    oM.view.readCov L r.toLoadRect x = oM.view.writes (Elt Ideal) oM.view.junk L (r.emb x) := rfl

/-- What the stores left, at an element of the `n`-th block of columns. -/
theorem outc_apply (c : Dev nD) (n : Fin 8) (i j : Fin 1024) : outc m c (ix2 i (at8 n j)) = act (total m c n) (ix2 i j) := by
  have e : (colRect n).emb (ix2 i j) = ix2 i (at8 n j) := funext fun a => Fin.ext (match a with
    | ⟨0, _⟩ => (show 0 + 1 * i.val = i.val by omega)
    | ⟨1, _⟩ => (show 1024 * n.val + 1 * j.val = n.val * 1024 + j.val by omega))
  rw [← out_col m c n, ← e, ← read_out m c oM.view.junk]
  exact (readCov_out _ _ _).symm

include hA hB in
/-- Device `c`'s result is its block of rows of the reference's. -/
theorem outc_eq (c : Dev nD) : outc m c = Layout.block ⟨2, ![1024, 8192]⟩ ⟨2, ![4096, 8192]⟩ 0 4 c (whole A B) tiles_out := by
  funext y
  obtain ⟨i, l, rfl⟩ : ∃ (i : Fin 1024) (l : Fin 8192), y = ix2 i l := ⟨y 0, y 1, funext fun a => match a with | ⟨0, _⟩ => rfl | ⟨1, _⟩ => rfl⟩
  obtain ⟨n, j, rfl⟩ : ∃ (n : Fin 8) (j : Fin 1024), l = at8 n j :=
    ⟨⟨l.val / 1024, by omega⟩, ⟨l.val % 1024, by omega⟩, Fin.ext (show l.val = l.val / 1024 * 1024 + l.val % 1024 by omega)⟩
  rw [outc_apply, act_eq A B _ i j (at4 c i) (at8 n j) (total_apply m A B hA hB c n i j), Layout.block_apply]
  refine congrArg (whole A B) (funext fun a => Fin.ext ?_)
  match a with
  | ⟨0, _⟩ => rfl
  | ⟨1, _⟩ => rfl

include hA hB in
/-- The result array after the launch. -/
theorem result_eq (c : Dev nD) :
    (dats m ρ 0 c).arrAt (0 : Fin 1) cfg0.N = Layout.block ⟨2, ![1024, 8192]⟩ ⟨2, ![4096, 8192]⟩ 0 4 c (whole A B) tiles_out := by
  refine (dats m ρ 0 c).arrAt_eq_of_covers (0 : Fin 1) _ (by decide +kernel) fun t hf y => ?_
  rw [← outc_eq m A B hA hB c]
  show outc m c y = outc m c _
  refine congrArg (outc m c) (funext fun a => Fin.ext ?_)
  obtain rfl : t = t0_0 := Fin.ext (by have := t.isLt; simpa using this)
  match a with
  | ⟨0, _⟩ => blk_simp; rw [(by decide +kernel : win0_0.index t0_0 0 = 0), Nat.zero_mul, Nat.zero_add]
  | ⟨1, _⟩ => blk_simp; rw [(by decide +kernel : win0_0.index t0_0 1 = 0), Nat.zero_mul, Nat.zero_add]

end Cert.KernelIdealProof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.KernelIdeal.Equation
public import Idealize.ShloMosaic.Adequacy
public import Idealize.ShloMosaic.Init

@[expose] public section

noncomputable section

namespace Cert.Proof

open Idealize.ShloMosaic Idealize.SL.Sem

/-- The printed kernel runs on the four devices, its arguments unchanged, every counter back at zero. -/
theorem frame_kernel : @Cert.quiescent_Kernel Cert.Kernel.Gen.facts := fun m ρ _ =>
  (θ_run Cert.Kernel.defs _ _).mono (fun _ h => ⟨fun c => (h.1 c).2, h.2⟩) (Cert.KernelProof.run_main (F := Bits) m ρ)

/-- The same of the idealized kernel, over the extended reals. -/
theorem frame_ideal : @Cert.quiescent_KernelIdeal Cert.KernelIdeal.Gen.facts := fun m ρ _ =>
  (θ_run Cert.KernelIdeal.defs _ _).mono (fun _ h => ⟨fun c => (h.1 c).2, h.2⟩) (Cert.KernelIdealProof.run_main (F := Ideal) m ρ)

/-- The reference is a straight line of host operations without semaphores. -/
theorem frame_reference : @Cert.quiescent_ReferenceIdeal Cert.ReferenceIdeal.Gen.facts := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From blocks of one pair of arrays, the four devices end with the blocks of rows of the reference's result. -/
theorem algebraic : @Cert.algebraic_KernelIdeal_ReferenceIdeal Cert.KernelIdeal.Gen.facts Cert.ReferenceIdeal.Gen.facts :=
  fun m ρ m' ρ' _ h => ⟨Cert.KernelIdealProof.whole _ _,
    (θ_run Cert.KernelIdeal.defs _ _).mono (fun _ r c => ⟨((r.1 c).1).trans
        (Cert.KernelIdealProof.result_eq m ρ _ _ (fun c => (h c).1) (fun c => (h c).2) c), (r.1 c).2⟩)
      (Cert.KernelIdealProof.run_main (F := Ideal) m ρ),
    (θ_run Cert.ReferenceIdeal.defs _ _).mono (fun _ r => r 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, algebraic⟩

end Cert.Proof

end
